-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_data [hPre_real_data : Cert.Pre_real_data.Facts] (m : (ℓ : Loc Cert.KernelIdeal.nD Cert.KernelIdeal.τ Cert.KernelIdeal.sig) → Buf (Elt Ideal) ℓ) : Prop :=
  ∀ c : Dev Cert.KernelIdeal.nD,
    (Cert.Pre_real_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_data [hPre_real_data : Cert.Pre_real_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_real_data [hKernelIdeal : Cert.KernelIdeal.Facts] [hPre_real_data : Cert.Pre_real_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_real_data [hReferenceIdeal : Cert.ReferenceIdeal.Facts] [hPre_real_data : Cert.Pre_real_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_real_data [hKernelIdeal : Cert.KernelIdeal.Facts] [hReferenceIdeal : Cert.ReferenceIdeal.Facts] [hPre_real_data : Cert.Pre_real_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v351_0)) (v1 : (c : Dev Cert.KernelIdeal.nD) → Buf (Elt Ideal) ((c.tc : Thread Cert.KernelIdeal.nD Cert.KernelIdeal.τ).loc Cert.KernelIdeal.main_v351_1)) (v2 : (c : Dev Cert.KernelIdeal.nD) → Buf (Elt Ideal) ((c.tc : Thread Cert.KernelIdeal.nD Cert.KernelIdeal.τ).loc Cert.KernelIdeal.main_v353)) (v3 : (c : Dev Cert.KernelIdeal.nD) → Buf (Elt Ideal) ((c.tc : Thread Cert.KernelIdeal.nD Cert.KernelIdeal.τ).loc Cert.KernelIdeal.main_v353)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v351_0) = v0 c
          ∧ r.2.mem ((c.tc : Thread Cert.KernelIdeal.nD Cert.KernelIdeal.τ).loc Cert.KernelIdeal.main_v351_1) = v1 c
          ∧ r.2.mem ((c.tc : Thread Cert.KernelIdeal.nD Cert.KernelIdeal.τ).loc Cert.KernelIdeal.main_v353) = v2 c
          ∧ r.2.mem ((c.tc : Thread Cert.KernelIdeal.nD Cert.KernelIdeal.τ).loc Cert.KernelIdeal.main_v353) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2_9) = v1 c
          ∧ r.2.mem ((c.tc : Thread Cert.ReferenceIdeal.nD Cert.ReferenceIdeal.τ).loc Cert.ReferenceIdeal.main_v2_10) = v2 c
          ∧ r.2.mem ((c.tc : Thread Cert.ReferenceIdeal.nD Cert.ReferenceIdeal.τ).loc Cert.ReferenceIdeal.main_v2_11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_real_data : Cert.Pre_real_data.Facts),
    quiescent_Kernel (hKernel := hKernel)
    ∧ quiescent_KernelIdeal (hKernelIdeal := hKernelIdeal)
    ∧ quiescent_KernelIdeal_pre_real_data (hKernelIdeal := hKernelIdeal) (hPre_real_data := hPre_real_data)
    ∧ quiescent_ReferenceIdeal (hReferenceIdeal := hReferenceIdeal)
    ∧ quiescent_ReferenceIdeal_pre_real_data (hReferenceIdeal := hReferenceIdeal) (hPre_real_data := hPre_real_data)
    ∧ preserves_Kernel_KernelIdeal
    ∧ algebraic_KernelIdeal_ReferenceIdeal_pre_real_data (hKernelIdeal := hKernelIdeal) (hReferenceIdeal := hReferenceIdeal) (hPre_real_data := hPre_real_data)
-- ==== Pre_real_data.lean ====
abbrev S16x1024x1024 : Shape := ⟨3, ![16, 1024, 1024]⟩
abbrev S8x64x1024 : Shape := ⟨3, ![8, 64, 1024]⟩
abbrev S8x64 : Shape := ⟨2, ![8, 64]⟩
abbrev S8x1024x64 : Shape := ⟨3, ![8, 1024, 64]⟩
abbrev S8x1024 : Shape := ⟨2, ![8, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S8x64x1024 : S_.BroadcastsInDim S8x64x1024 (![] : Fin 0 → Fin S8x64x1024.rank)
  reducesTo_S8x64x1024_S_d0_1_2 : S8x64x1024.ReducesTo [0, 1, 2] S_
  bcast_S_S8x64 : S_.BroadcastsInDim S8x64 (![] : Fin 0 → Fin S8x64.rank)
  reducesTo_S8x64_S_d0_1 : S8x64.ReducesTo [0, 1] S_
  bcast_S_S8x1024x64 : S_.BroadcastsInDim S8x1024x64 (![] : Fin 0 → Fin S8x1024x64.rank)
  reducesTo_S8x1024x64_S_d0_1_2 : S8x1024x64.ReducesTo [0, 1, 2] S_
  bcast_S_S8x1024 : S_.BroadcastsInDim S8x1024 (![] : Fin 0 → Fin S8x1024.rank)
  reducesTo_S8x1024_S_d0_1 : S8x1024.ReducesTo [0, 1] S_
  reducesTo_S8x64x1024_S8x64_d2 : S8x64x1024.ReducesTo [2] S8x64
  reducesTo_S8x1024x64_S8x1024_d2 : S8x1024x64.ReducesTo [2] S8x1024

variable [Facts]

def fn_part3 {F : FTy → Type} [FloatOps F] (main_v44 : IVec S_ 1) (main_v49 : IVec S_ 1) : IVec S_ 1 :=
  let main_v50 : IVec S_ 1 := andi main_v44 main_v49
  main_v50

def fn_part2 {F : FTy → Type} [FloatOps F] (main_arg1 : FVec F S8x64x1024 .f32) (main_arg4 : FVec F S8x1024x64 .f32) (main_arg7 : FVec F S8x1024x64 .f32) (main_v33 : IVec S_ 1) : IVec S_ 1 :=
  let main_v34 : FVec F S8x1024x64 .f32 := Host.absf main_arg7
  let main_cst_12 : FVec F S_ .f32 := constant S_ .f32 0x7F800000#32
  let main_v35 : FVec F S8x1024x64 .f32 := broadcastInDim S8x1024x64 ![] bcast_S_S8x1024x64 main_cst_12
  let main_v36 : IVec S8x1024x64 1 := cmpf .olt main_v34 main_v35
  let main_c_13 : IVec S_ 1 := constantI S_ 1 1#1
  let main_v37 : IVec S_ 1 := (fun x v => Host.reduce IntOp.andi x v reducesTo_S8x1024x64_S_d0_1_2 h_S_) main_v36 main_c_13
  let main_v38 : IVec S_ 1 := andi main_v33 main_v37
  let main_v39 : FVec F S8x64x1024 .f32 := mulf main_arg1 main_arg1
  let main_cst_14 : FVec F S_ .f32 := constant S_ .f32 0x00000000#32
  let main_v40 : FVec F S8x64 .f32 := (fun x v => Host.reduceAdd x v reducesTo_S8x64x1024_S8x64_d2 h_S_) main_v39 main_cst_14
  let main_cst_15 : FVec F S_ .f32 := constant S_ .f32 0x00000000#32
  let main_v41 : FVec F S8x64 .f32 := broadcastInDim S8x64 ![] bcast_S_S8x64 main_cst_15
  let main_v42 : IVec S8x64 1 := cmpf .ogt main_v40 main_v41
  let main_c_16 : IVec S_ 1 := constantI S_ 1 1#1
  let main_v43 : IVec S_ 1 := (fun x v => Host.reduce IntOp.andi x v reducesTo_S8x64_S_d0_1 h_S_) main_v42 main_c_16
  let main_v44 : IVec S_ 1 := andi main_v38 main_v43
  let main_v45 : FVec F S8x1024x64 .f32 := mulf main_arg4 main_arg4
  let main_cst_17 : FVec F S_ .f32 := constant S_ .f32 0x00000000#32
  let main_v46 : FVec F S8x1024 .f32 := (fun x v => Host.reduceAdd x v reducesTo_S8x1024x64_S8x1024_d2 h_S_) main_v45 main_cst_17
  let main_cst_18 : FVec F S_ .f32 := constant S_ .f32 0x00000000#32
  let main_v47 : FVec F S8x1024 .f32 := broadcastInDim S8x1024 ![] bcast_S_S8x1024 main_cst_18
  let main_v48 : IVec S8x1024 1 := cmpf .ogt main_v46 main_v47
  let main_c_19 : IVec S_ 1 := constantI S_ 1 1#1
  let main_v49 : IVec S_ 1 := (fun x v => Host.reduce IntOp.andi x v reducesTo_S8x1024_S_d0_1 h_S_) main_v48 main_c_19
  fn_part3 (F := F) main_v44 main_v49

def fn_part1 {F : FTy → Type} [FloatOps F] (main_arg1 : FVec F S8x64x1024 .f32) (main_arg4 : FVec F S8x1024x64 .f32) (main_arg5 : FVec F S8x1024 .f32) (main_arg6 : FVec F S8x1024 .f32) (main_arg7 : FVec F S8x1024x64 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x1024x64 .f32 := Host.absf main_arg4
  let main_cst_6 : FVec F S_ .f32 := constant S_ .f32 0x7F800000#32
  let main_v20 : FVec F S8x1024x64 .f32 := broadcastInDim S8x1024x64 ![] bcast_S_S8x1024x64 main_cst_6
  let main_v21 : IVec S8x1024x64 1 := cmpf .olt main_v19 main_v20
  let main_c_7 : IVec S_ 1 := constantI S_ 1 1#1
  let main_v22 : IVec S_ 1 := (fun x v => Host.reduce IntOp.andi x v reducesTo_S8x1024x64_S_d0_1_2 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S8x1024 .f32 := Host.absf main_arg6
  let main_cst_10 : FVec F S_ .f32 := constant S_ .f32 0x7F800000#32
  let main_v30 : FVec F S8x1024 .f32 := broadcastInDim S8x1024 ![] bcast_S_S8x1024 main_cst_10
  let main_v31 : IVec S8x1024 1 := cmpf .olt main_v29 main_v30
  let main_c_11 : IVec S_ 1 := constantI S_ 1 1#1
  let main_v32 : IVec S_ 1 := (fun x v => Host.reduce IntOp.andi x v reducesTo_S8x1024_S_d0_1 h_S_) main_v31 main_c_11
  let main_v33 : IVec S_ 1 := andi main_v28 main_v32
  fn_part2 (F := F) main_arg1 main_arg4 main_arg7 main_v33

def fn {F : FTy → Type} [FloatOps F] (main_arg0 : FVec F S16x1024x1024 .f32) (main_arg1 : FVec F S8x64x1024 .f32) (main_arg2 : FVec F S8x64 .f32) (main_arg3 : FVec F S8x64 .f32) (main_arg4 : FVec F S8x1024x64 .f32) (main_arg5 : FVec F S8x1024 .f32) (main_arg6 : FVec F S8x1024 .f32) (main_arg7 : FVec F S8x1024x64 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S8x64x1024 .f32 := Host.absf main_arg1
  let main_cst_0 : FVec F S_ .f32 := constant S_ .f32 0x7F800000#32
  let main_v5 : FVec F S8x64x1024 .f32 := broadcastInDim S8x64x1024 ![] bcast_S_S8x64x1024 main_cst_0
  let main_v6 : IVec S8x64x1024 1 := cmpf .olt main_v4 main_v5
  let main_c_1 : IVec S_ 1 := constantI S_ 1 1#1
  let main_v7 : IVec S_ 1 := (fun x v => Host.reduce IntOp.andi x v reducesTo_S8x64x1024_S_d0_1_2 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg1 main_arg4 main_arg5 main_arg6 main_arg7 main_v13 main_v16
-- ==== Kernel.lean ====
abbrev S16x1024x1024 : Shape := ⟨3, ![16, 1024, 1024]⟩
abbrev S8x64x1024 : Shape := ⟨3, ![8, 64, 1024]⟩
abbrev S8x64 : Shape := ⟨2, ![8, 64]⟩
abbrev S8x1024x64 : Shape := ⟨3, ![8, 1024, 64]⟩
abbrev S8x1024 : Shape := ⟨2, ![8, 1024]⟩
abbrev S1x64x1024 : Shape := ⟨3, ![1, 64, 1024]⟩
abbrev S64x1024 : Shape := ⟨2, ![64, 1024]⟩
abbrev S_ : Shape := ⟨0, ![]⟩
abbrev S64 : Shape := ⟨1, ![64]⟩
abbrev S64x1 : Shape := ⟨2, ![64, 1]⟩
abbrev S1x64 : Shape := ⟨2, ![1, 64]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1x1024x1 : Shape := ⟨3, ![1, 1024, 1]⟩
abbrev S8x1024x1 : Shape := ⟨3, ![8, 1024, 1]⟩
abbrev S8x64x1 : Shape := ⟨3, ![8, 64, 1]⟩
abbrev S16x8x1024 : Shape := ⟨3, ![16, 8, 1024]⟩
abbrev S1x1024x1024 : Shape := ⟨3, ![1, 1024, 1024]⟩
abbrev S1x8x1024 : Shape := ⟨3, ![1, 8, 1024]⟩
abbrev S1024x1024 : Shape := ⟨2, ![1024, 1024]⟩
abbrev S1x64x1 : Shape := ⟨3, ![1, 64, 1]⟩
abbrev S32x1024 : Shape := ⟨2, ![32, 1024]⟩
abbrev S16x1024 : Shape := ⟨2, ![16, 1024]⟩
abbrev S4x1024 : Shape := ⟨2, ![4, 1024]⟩
abbrev S2x1024 : Shape := ⟨2, ![2, 1024]⟩
abbrev S1x1x1024 : Shape := ⟨3, ![1, 1, 1024]⟩

abbrev nBuf : Space → Nat
  | .hbm => 406
  | .vmem => 15
  | .smem => 0
  | _ => 0

abbrev hbmTy0_0 (i : Nat) : BufTy := match i % 128 with
  | 0 => ⟨S16x1024x1024, .f32⟩
  | 1 => ⟨S8x64x1024, .f32⟩
  | 2 => ⟨S8x64, .f32⟩
  | 3 => ⟨S8x64, .f32⟩
  | 4 => ⟨S8x1024x64, .f32⟩
  | 5 => ⟨S8x1024, .f32⟩
  | 6 => ⟨S8x1024, .f32⟩
  | 7 => ⟨S8x1024x64, .f32⟩
  | 8 => ⟨S1x64x1024, .f32⟩
  | 9 => ⟨S64x1024, .f32⟩
  | 10 => ⟨S64x1024, .f32⟩
  | 11 => ⟨S_, .f32⟩
  | 12 => ⟨S64, .f32⟩
  | 13 => ⟨S64x1, .f32⟩
  | 14 => ⟨S64x1, .f32⟩
  | 15 => ⟨S1x64, .f32⟩
  | 16 => ⟨S64, .f32⟩
  | 17 => ⟨S64x1, .f32⟩
  | 18 => ⟨S64x1024, .f32⟩
  | 19 => ⟨S64x1024, .f32⟩
  | 20 => ⟨S64x1024, .f32⟩
  | 21 => ⟨S64x1024, .f32⟩
  | 22 => ⟨S1x1024x64, .f32⟩
  | 23 => ⟨S1024x64, .f32⟩
  | 24 => ⟨S1024x64, .f32⟩
  | 25 => ⟨S_, .f32⟩
  | 26 => ⟨S1024, .f32⟩
  | 27 => ⟨S1024x1, .f32⟩
  | 28 => ⟨S1024x1, .f32⟩
  | 29 => ⟨S1x1024, .f32⟩
  | 30 => ⟨S1024, .f32⟩
  | 31 => ⟨S1024x1, .f32⟩
  | 32 => ⟨S1024x64, .f32⟩
  | 33 => ⟨S1024x64, .f32⟩
  | 34 => ⟨S1024x64, .f32⟩
  | 35 => ⟨S1024x64, .f32⟩
  | 36 => ⟨S1x1024x64, .f32⟩
  | 37 => ⟨S1024x64, .f32⟩
  | 38 => ⟨S1024x64, .f32⟩
  | 39 => ⟨S_, .f32⟩
  | 40 => ⟨S1024, .f32⟩
  | 41 => ⟨S1024x1, .f32⟩
  | 42 => ⟨S1024x1, .f32⟩
  | 43 => ⟨S_, .f32⟩
  | 44 => ⟨S1024x1, .f32⟩
  | 45 => ⟨S1024x1, .f32⟩
  | 46 => ⟨S1024x64, .f32⟩
  | 47 => ⟨S1024x64, .f32⟩
  | 48 => ⟨S1024x64, .f32⟩
  | 49 => ⟨S_, .f32⟩
  | 50 => ⟨S1024, .f32⟩
  | 51 => ⟨S1024x1, .f32⟩
  | 52 => ⟨S1x64x1024, .f32⟩
  | 53 => ⟨S64x1024, .f32⟩
  | 54 => ⟨S64x1024, .f32⟩
  | 55 => ⟨S_, .f32⟩
  | 56 => ⟨S64, .f32⟩
  | 57 => ⟨S64x1, .f32⟩
  | 58 => ⟨S64x1, .f32⟩
  | 59 => ⟨S1x64, .f32⟩
  | 60 => ⟨S64, .f32⟩
  | 61 => ⟨S64x1, .f32⟩
  | 62 => ⟨S64x1024, .f32⟩
  | 63 => ⟨S64x1024, .f32⟩
  | 64 => ⟨S64x1024, .f32⟩
  | 65 => ⟨S64x1024, .f32⟩
  | 66 => ⟨S1x1024x64, .f32⟩
  | 67 => ⟨S1024x64, .f32⟩
  | 68 => ⟨S1024x64, .f32⟩
  | 69 => ⟨S_, .f32⟩
  | 70 => ⟨S1024, .f32⟩
  | 71 => ⟨S1024x1, .f32⟩
  | 72 => ⟨S1024x1, .f32⟩
  | 73 => ⟨S1x1024, .f32⟩
  | 74 => ⟨S1024, .f32⟩
  | 75 => ⟨S1024x1, .f32⟩
  | 76 => ⟨S1024x64, .f32⟩
  | 77 => ⟨S1024x64, .f32⟩
  | 78 => ⟨S1024x64, .f32⟩
  | 79 => ⟨S1024x64, .f32⟩
  | 80 => ⟨S1x1024x64, .f32⟩
  | 81 => ⟨S1024x64, .f32⟩
  | 82 => ⟨S1024x64, .f32⟩
  | 83 => ⟨S_, .f32⟩
  | 84 => ⟨S1024, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S1024x64, .f32⟩
  | 91 => ⟨S1024x64, .f32⟩
  | 92 => ⟨S1024x64, .f32⟩
  | 93 => ⟨S_, .f32⟩
  | 94 => ⟨S1024, .f32⟩
  | 95 => ⟨S1024x1, .f32⟩
  | 96 => ⟨S1x64x1024, .f32⟩
  | 97 => ⟨S64x1024, .f32⟩
  | 98 => ⟨S64x1024, .f32⟩
  | 99 => ⟨S_, .f32⟩
  | 100 => ⟨S64, .f32⟩
  | 101 => ⟨S64x1, .f32⟩
  | 102 => ⟨S64x1, .f32⟩
  | 103 => ⟨S1x64, .f32⟩
  | 104 => ⟨S64, .f32⟩
  | 105 => ⟨S64x1, .f32⟩
  | 106 => ⟨S64x1024, .f32⟩
  | 107 => ⟨S64x1024, .f32⟩
  | 108 => ⟨S64x1024, .f32⟩
  | 109 => ⟨S64x1024, .f32⟩
  | 110 => ⟨S1x1024x64, .f32⟩
  | 111 => ⟨S1024x64, .f32⟩
  | 112 => ⟨S1024x64, .f32⟩
  | 113 => ⟨S_, .f32⟩
  | 114 => ⟨S1024, .f32⟩
  | 115 => ⟨S1024x1, .f32⟩
  | 116 => ⟨S1024x1, .f32⟩
  | 117 => ⟨S1x1024, .f32⟩
  | 118 => ⟨S1024, .f32⟩
  | 119 => ⟨S1024x1, .f32⟩
  | 120 => ⟨S1024x64, .f32⟩
  | 121 => ⟨S1024x64, .f32⟩
  | 122 => ⟨S1024x64, .f32⟩
  | 123 => ⟨S1024x64, .f32⟩
  | 124 => ⟨S1x1024x64, .f32⟩
  | 125 => ⟨S1024x64, .f32⟩
  | 126 => ⟨S1024x64, .f32⟩
  | 127 => ⟨S_, .f32⟩
  | _ => ⟨S16x1024x1024, .f32⟩

abbrev hbmTy0_1 (i : Nat) : BufTy := match i % 128 with
  | 0 => ⟨S1024, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S1024x64, .f32⟩
  | 7 => ⟨S1024x64, .f32⟩
  | 8 => ⟨S1024x64, .f32⟩
  | 9 => ⟨S_, .f32⟩
  | 10 => ⟨S1024, .f32⟩
  | 11 => ⟨S1024x1, .f32⟩
  | 12 => ⟨S1x64x1024, .f32⟩
  | 13 => ⟨S64x1024, .f32⟩
  | 14 => ⟨S64x1024, .f32⟩
  | 15 => ⟨S_, .f32⟩
  | 16 => ⟨S64, .f32⟩
  | 17 => ⟨S64x1, .f32⟩
  | 18 => ⟨S64x1, .f32⟩
  | 19 => ⟨S1x64, .f32⟩
  | 20 => ⟨S64, .f32⟩
  | 21 => ⟨S64x1, .f32⟩
  | 22 => ⟨S64x1024, .f32⟩
  | 23 => ⟨S64x1024, .f32⟩
  | 24 => ⟨S64x1024, .f32⟩
  | 25 => ⟨S64x1024, .f32⟩
  | 26 => ⟨S1x1024x64, .f32⟩
  | 27 => ⟨S1024x64, .f32⟩
  | 28 => ⟨S1024x64, .f32⟩
  | 29 => ⟨S_, .f32⟩
  | 30 => ⟨S1024, .f32⟩
  | 31 => ⟨S1024x1, .f32⟩
  | 32 => ⟨S1024x1, .f32⟩
  | 33 => ⟨S1x1024, .f32⟩
  | 34 => ⟨S1024, .f32⟩
  | 35 => ⟨S1024x1, .f32⟩
  | 36 => ⟨S1024x64, .f32⟩
  | 37 => ⟨S1024x64, .f32⟩
  | 38 => ⟨S1024x64, .f32⟩
  | 39 => ⟨S1024x64, .f32⟩
  | 40 => ⟨S1x1024x64, .f32⟩
  | 41 => ⟨S1024x64, .f32⟩
  | 42 => ⟨S1024x64, .f32⟩
  | 43 => ⟨S_, .f32⟩
  | 44 => ⟨S1024, .f32⟩
  | 45 => ⟨S1024x1, .f32⟩
  | 46 => ⟨S1024x1, .f32⟩
  | 47 => ⟨S_, .f32⟩
  | 48 => ⟨S1024x1, .f32⟩
  | 49 => ⟨S1024x1, .f32⟩
  | 50 => ⟨S1024x64, .f32⟩
  | 51 => ⟨S1024x64, .f32⟩
  | 52 => ⟨S1024x64, .f32⟩
  | 53 => ⟨S_, .f32⟩
  | 54 => ⟨S1024, .f32⟩
  | 55 => ⟨S1024x1, .f32⟩
  | 56 => ⟨S1x64x1024, .f32⟩
  | 57 => ⟨S64x1024, .f32⟩
  | 58 => ⟨S64x1024, .f32⟩
  | 59 => ⟨S_, .f32⟩
  | 60 => ⟨S64, .f32⟩
  | 61 => ⟨S64x1, .f32⟩
  | 62 => ⟨S64x1, .f32⟩
  | 63 => ⟨S1x64, .f32⟩
  | 64 => ⟨S64, .f32⟩
  | 65 => ⟨S64x1, .f32⟩
  | 66 => ⟨S64x1024, .f32⟩
  | 67 => ⟨S64x1024, .f32⟩
  | 68 => ⟨S64x1024, .f32⟩
  | 69 => ⟨S64x1024, .f32⟩
  | 70 => ⟨S1x1024x64, .f32⟩
  | 71 => ⟨S1024x64, .f32⟩
  | 72 => ⟨S1024x64, .f32⟩
  | 73 => ⟨S_, .f32⟩
  | 74 => ⟨S1024, .f32⟩
  | 75 => ⟨S1024x1, .f32⟩
  | 76 => ⟨S1024x1, .f32⟩
  | 77 => ⟨S1x1024, .f32⟩
  | 78 => ⟨S1024, .f32⟩
  | 79 => ⟨S1024x1, .f32⟩
  | 80 => ⟨S1024x64, .f32⟩
  | 81 => ⟨S1024x64, .f32⟩
  | 82 => ⟨S1024x64, .f32⟩
  | 83 => ⟨S1024x64, .f32⟩
  | 84 => ⟨S1x1024x64, .f32⟩
  | 85 => ⟨S1024x64, .f32⟩
  | 86 => ⟨S1024x64, .f32⟩
  | 87 => ⟨S_, .f32⟩
  | 88 => ⟨S1024, .f32⟩
  | 89 => ⟨S1024x1, .f32⟩
  | 90 => ⟨S1024x1, .f32⟩
  | 91 => ⟨S_, .f32⟩
  | 92 => ⟨S1024x1, .f32⟩
  | 93 => ⟨S1024x1, .f32⟩
  | 94 => ⟨S1024x64, .f32⟩
  | 95 => ⟨S1024x64, .f32⟩
  | 96 => ⟨S1024x64, .f32⟩
  | 97 => ⟨S_, .f32⟩
  | 98 => ⟨S1024, .f32⟩
  | 99 => ⟨S1024x1, .f32⟩
  | 100 => ⟨S1x64x1024, .f32⟩
  | 101 => ⟨S64x1024, .f32⟩
  | 102 => ⟨S64x1024, .f32⟩
  | 103 => ⟨S_, .f32⟩
  | 104 => ⟨S64, .f32⟩
  | 105 => ⟨S64x1, .f32⟩
  | 106 => ⟨S64x1, .f32⟩
  | 107 => ⟨S1x64, .f32⟩
  | 108 => ⟨S64, .f32⟩
  | 109 => ⟨S64x1, .f32⟩
  | 110 => ⟨S64x1024, .f32⟩
  | 111 => ⟨S64x1024, .f32⟩
  | 112 => ⟨S64x1024, .f32⟩
  | 113 => ⟨S64x1024, .f32⟩
  | 114 => ⟨S1x1024x64, .f32⟩
  | 115 => ⟨S1024x64, .f32⟩
  | 116 => ⟨S1024x64, .f32⟩
  | 117 => ⟨S_, .f32⟩
  | 118 => ⟨S1024, .f32⟩
  | 119 => ⟨S1024x1, .f32⟩
  | 120 => ⟨S1024x1, .f32⟩
  | 121 => ⟨S1x1024, .f32⟩
  | 122 => ⟨S1024, .f32⟩
  | 123 => ⟨S1024x1, .f32⟩
  | 124 => ⟨S1024x64, .f32⟩
  | 125 => ⟨S1024x64, .f32⟩
  | 126 => ⟨S1024x64, .f32⟩
  | 127 => ⟨S1024x64, .f32⟩
  | _ => ⟨S16x1024x1024, .f32⟩

abbrev hbmTy0_2 (i : Nat) : BufTy := match i % 128 with
  | 0 => ⟨S1x1024x64, .f32⟩
  | 1 => ⟨S1024x64, .f32⟩
  | 2 => ⟨S1024x64, .f32⟩
  | 3 => ⟨S_, .f32⟩
  | 4 => ⟨S1024, .f32⟩
  | 5 => ⟨S1024x1, .f32⟩
  | 6 => ⟨S1024x1, .f32⟩
  | 7 => ⟨S_, .f32⟩
  | 8 => ⟨S1024x1, .f32⟩
  | 9 => ⟨S1024x1, .f32⟩
  | 10 => ⟨S1024x64, .f32⟩
  | 11 => ⟨S1024x64, .f32⟩
  | 12 => ⟨S1024x64, .f32⟩
  | 13 => ⟨S_, .f32⟩
  | 14 => ⟨S1024, .f32⟩
  | 15 => ⟨S1024x1, .f32⟩
  | 16 => ⟨S1x64x1024, .f32⟩
  | 17 => ⟨S64x1024, .f32⟩
  | 18 => ⟨S64x1024, .f32⟩
  | 19 => ⟨S_, .f32⟩
  | 20 => ⟨S64, .f32⟩
  | 21 => ⟨S64x1, .f32⟩
  | 22 => ⟨S64x1, .f32⟩
  | 23 => ⟨S1x64, .f32⟩
  | 24 => ⟨S64, .f32⟩
  | 25 => ⟨S64x1, .f32⟩
  | 26 => ⟨S64x1024, .f32⟩
  | 27 => ⟨S64x1024, .f32⟩
  | 28 => ⟨S64x1024, .f32⟩
  | 29 => ⟨S64x1024, .f32⟩
  | 30 => ⟨S1x1024x64, .f32⟩
  | 31 => ⟨S1024x64, .f32⟩
  | 32 => ⟨S1024x64, .f32⟩
  | 33 => ⟨S_, .f32⟩
  | 34 => ⟨S1024, .f32⟩
  | 35 => ⟨S1024x1, .f32⟩
  | 36 => ⟨S1024x1, .f32⟩
  | 37 => ⟨S1x1024, .f32⟩
  | 38 => ⟨S1024, .f32⟩
  | 39 => ⟨S1024x1, .f32⟩
  | 40 => ⟨S1024x64, .f32⟩
  | 41 => ⟨S1024x64, .f32⟩
  | 42 => ⟨S1024x64, .f32⟩
  | 43 => ⟨S1024x64, .f32⟩
  | 44 => ⟨S1x1024x64, .f32⟩
  | 45 => ⟨S1024x64, .f32⟩
  | 46 => ⟨S1024x64, .f32⟩
  | 47 => ⟨S_, .f32⟩
  | 48 => ⟨S1024, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S1024x64, .f32⟩
  | 55 => ⟨S1024x64, .f32⟩
  | 56 => ⟨S1024x64, .f32⟩
  | 57 => ⟨S_, .f32⟩
  | 58 => ⟨S1024, .f32⟩
  | 59 => ⟨S1024x1, .f32⟩
  | 60 => ⟨S1x64x1024, .f32⟩
  | 61 => ⟨S64x1024, .f32⟩
  | 62 => ⟨S64x1024, .f32⟩
  | 63 => ⟨S_, .f32⟩
  | 64 => ⟨S64, .f32⟩
  | 65 => ⟨S64x1, .f32⟩
  | 66 => ⟨S64x1, .f32⟩
  | 67 => ⟨S1x64, .f32⟩
  | 68 => ⟨S64, .f32⟩
  | 69 => ⟨S64x1, .f32⟩
  | 70 => ⟨S64x1024, .f32⟩
  | 71 => ⟨S64x1024, .f32⟩
  | 72 => ⟨S64x1024, .f32⟩
  | 73 => ⟨S64x1024, .f32⟩
  | 74 => ⟨S1x1024x64, .f32⟩
  | 75 => ⟨S1024x64, .f32⟩
  | 76 => ⟨S1024x64, .f32⟩
  | 77 => ⟨S_, .f32⟩
  | 78 => ⟨S1024, .f32⟩
  | 79 => ⟨S1024x1, .f32⟩
  | 80 => ⟨S1024x1, .f32⟩
  | 81 => ⟨S1x1024, .f32⟩
  | 82 => ⟨S1024, .f32⟩
  | 83 => ⟨S1024x1, .f32⟩
  | 84 => ⟨S1024x64, .f32⟩
  | 85 => ⟨S1024x64, .f32⟩
  | 86 => ⟨S1024x64, .f32⟩
  | 87 => ⟨S1024x64, .f32⟩
  | 88 => ⟨S1x1024x64, .f32⟩
  | 89 => ⟨S1024x64, .f32⟩
  | 90 => ⟨S1024x64, .f32⟩
  | 91 => ⟨S_, .f32⟩
  | 92 => ⟨S1024, .f32⟩
  | 93 => ⟨S1024x1, .f32⟩
  | 94 => ⟨S1024x1, .f32⟩
  | 95 => ⟨S_, .f32⟩
  | 96 => ⟨S1024x1, .f32⟩
  | 97 => ⟨S1024x1, .f32⟩
  | 98 => ⟨S1024x64, .f32⟩
  | 99 => ⟨S1024x64, .f32⟩
  | 100 => ⟨S1024x64, .f32⟩
  | 101 => ⟨S_, .f32⟩
  | 102 => ⟨S1024, .f32⟩
  | 103 => ⟨S1024x1, .f32⟩
  | 104 => ⟨S1x64x1024, .f32⟩
  | 105 => ⟨S1x64x1024, .f32⟩
  | 106 => ⟨S1x64x1024, .f32⟩
  | 107 => ⟨S1x64x1024, .f32⟩
  | 108 => ⟨S1x64x1024, .f32⟩
  | 109 => ⟨S1x64x1024, .f32⟩
  | 110 => ⟨S1x64x1024, .f32⟩
  | 111 => ⟨S1x64x1024, .f32⟩
  | 112 => ⟨S8x64x1024, .f32⟩
  | 113 => ⟨S1x1024x64, .f32⟩
  | 114 => ⟨S1x1024x64, .f32⟩
  | 115 => ⟨S1x1024x64, .f32⟩
  | 116 => ⟨S1x1024x64, .f32⟩
  | 117 => ⟨S1x1024x64, .f32⟩
  | 118 => ⟨S1x1024x64, .f32⟩
  | 119 => ⟨S1x1024x64, .f32⟩
  | 120 => ⟨S1x1024x64, .f32⟩
  | 121 => ⟨S8x1024x64, .f32⟩
  | 122 => ⟨S1x1024x64, .f32⟩
  | 123 => ⟨S1x1024x64, .f32⟩
  | 124 => ⟨S1x1024x64, .f32⟩
  | 125 => ⟨S1x1024x64, .f32⟩
  | 126 => ⟨S1x1024x64, .f32⟩
  | 127 => ⟨S1x1024x64, .f32⟩
  | _ => ⟨S16x1024x1024, .f32⟩

abbrev hbmTy0_3 (i : Nat) : BufTy := match i % 128 with
  | 0 => ⟨S1x1024x64, .f32⟩
  | 1 => ⟨S1x1024x64, .f32⟩
  | 2 => ⟨S8x1024x64, .f32⟩
  | 3 => ⟨S1x1024x1, .f32⟩
  | 4 => ⟨S1x1024x1, .f32⟩
  | 5 => ⟨S1x1024x1, .f32⟩
  | 6 => ⟨S1x1024x1, .f32⟩
  | 7 => ⟨S1x1024x1, .f32⟩
  | 8 => ⟨S1x1024x1, .f32⟩
  | 9 => ⟨S1x1024x1, .f32⟩
  | 10 => ⟨S1x1024x1, .f32⟩
  | 11 => ⟨S8x1024x1, .f32⟩
  | 12 => ⟨S8x64x1024, .f32⟩
  | 13 => ⟨S8x64x1, .f32⟩
  | 14 => ⟨S8x1024x1, .f32⟩
  | 15 => ⟨S16x8x1024, .i32⟩
  | 16 => ⟨S16x1024x1024, .f32⟩
  | 17 => ⟨S16x8x1024, .f32⟩
  | 18 => ⟨S_, .f32⟩
  | 19 => ⟨S_, .f32⟩
  | 20 => ⟨S_, .f32⟩
  | 21 => ⟨S_, .f32⟩
  | _ => ⟨S16x1024x1024, .f32⟩

abbrev hbmTy (i : Nat) : BufTy := match i / 128 with
  | 0 => hbmTy0_0 i
  | 1 => hbmTy0_1 i
  | 2 => hbmTy0_2 i
  | 3 => hbmTy0_3 i
  | _ => ⟨S16x1024x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S8x64x1024, .f32⟩
  | .local _ .vmem, ⟨3, _⟩ => ⟨S8x64x1, .f32⟩
  | .local _ .vmem, ⟨4, _⟩ => ⟨S8x1024x64, .f32⟩
  | .local _ .vmem, ⟨5, _⟩ => ⟨S8x1024x1, .f32⟩
  | .local _ .vmem, ⟨6, _⟩ => ⟨S8x1024x64, .f32⟩
  | .local _ .vmem, ⟨7, _⟩ => ⟨S8x64x1024, .f32⟩
  | .local _ .vmem, ⟨8, _⟩ => ⟨S8x1024x1, .f32⟩
  | .local _ .vmem, ⟨9, _⟩ => ⟨S1x8x1024, .i32⟩
  | .local _ .vmem, ⟨10, _⟩ => ⟨S1x8x1024, .i32⟩
  | .local _ .vmem, ⟨11, _⟩ => ⟨S1x1024x1024, .f32⟩
  | .local _ .vmem, ⟨12, _⟩ => ⟨S1x1024x1024, .f32⟩
  | .local _ .vmem, ⟨13, _⟩ => ⟨S1x8x1024, .f32⟩
  | .local _ .vmem, ⟨14, _⟩ => ⟨S1x8x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_10 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_11 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_13 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_cst_14 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_15 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_16 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_17 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_cst_18 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_19 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_cst_20 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_cst_21 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_cst_22 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_cst_23 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_cst_24 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_cst_25 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_cst_26 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_cst_27 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_cst_28 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_cst_29 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_cst_30 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_cst_31 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_cst_32 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_cst_33 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_cst_34 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_cst_35 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_cst_36 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_cst_37 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_cst_38 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351_0 : Ref sig .tc := ⟨.hbm, 399, rfl⟩
abbrev main_v351_1 : Ref sig .tc := ⟨.hbm, 400, rfl⟩
abbrev main_v351_2 : Ref sig .tc := ⟨.hbm, 401, rfl⟩
abbrev main_cst_39 : Ref sig .tc := ⟨.hbm, 402, rfl⟩
abbrev main_v352 : Ref sig .tc := ⟨.hbm, 403, rfl⟩
abbrev main_cst_40 : Ref sig .tc := ⟨.hbm, 404, rfl⟩
abbrev main_v353 : Ref sig .tc := ⟨.hbm, 405, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x1024x1024 : Shape := ⟨3, ![16, 1024, 1024]⟩
abbrev S8x64x1024 : Shape := ⟨3, ![8, 64, 1024]⟩
abbrev S8x64 : Shape := ⟨2, ![8, 64]⟩
abbrev S8x1024x64 : Shape := ⟨3, ![8, 1024, 64]⟩
abbrev S8x1024 : Shape := ⟨2, ![8, 1024]⟩
abbrev S_ : Shape := ⟨0, ![]⟩
abbrev S8x16x1024 : Shape := ⟨3, ![8, 16, 1024]⟩
abbrev S1x64x1024 : Shape := ⟨3, ![1, 64, 1024]⟩
abbrev S64x1024 : Shape := ⟨2, ![64, 1024]⟩
abbrev S1x64 : Shape := ⟨2, ![1, 64]⟩
abbrev S64 : Shape := ⟨1, ![64]⟩
abbrev S1x1024x64 : Shape := ⟨3, ![1, 1024, 64]⟩
abbrev S1024x64 : Shape := ⟨2, ![1024, 64]⟩
abbrev S1x1024 : Shape := ⟨2, ![1, 1024]⟩
abbrev S1024 : Shape := ⟨1, ![1024]⟩
abbrev S64x1 : Shape := ⟨2, ![64, 1]⟩
abbrev S16x1024x64 : Shape := ⟨3, ![16, 1024, 64]⟩
abbrev S16x64x1024 : Shape := ⟨3, ![16, 64, 1024]⟩
abbrev S1x64x1 : Shape := ⟨3, ![1, 64, 1]⟩
abbrev S16384x64 : Shape := ⟨2, ![16384, 64]⟩
abbrev S16384 : Shape := ⟨1, ![16384]⟩
abbrev S16384x1 : Shape := ⟨2, ![16384, 1]⟩
abbrev S1024x1 : Shape := ⟨2, ![1024, 1]⟩
abbrev S16384x1024 : Shape := ⟨2, ![16384, 1024]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩
abbrev S16 : Shape := ⟨1, ![16]⟩
abbrev S1x1024x1 : Shape := ⟨3, ![1, 1024, 1]⟩
abbrev S16x1x1 : Shape := ⟨3, ![16, 1, 1]⟩
abbrev S1x16x1024 : Shape := ⟨3, ![1, 16, 1024]⟩
abbrev S16x8x1024 : Shape := ⟨3, ![16, 8, 1024]⟩

abbrev nBuf : Space → Nat
  | .hbm => 196
  | .vmem => 0
  | .smem => 0
  | _ => 0

abbrev hbmTy0_0 (i : Nat) : BufTy := match i % 128 with
  | 0 => ⟨S16x1024x1024, .f32⟩
  | 1 => ⟨S8x64x1024, .f32⟩
  | 2 => ⟨S8x64, .f32⟩
  | 3 => ⟨S8x64, .f32⟩
  | 4 => ⟨S8x1024x64, .f32⟩
  | 5 => ⟨S8x1024, .f32⟩
  | 6 => ⟨S8x1024, .f32⟩
  | 7 => ⟨S8x1024x64, .f32⟩
  | 8 => ⟨S_, .f32⟩
  | 9 => ⟨S16x1024x1024, .f32⟩
  | 10 => ⟨S_, .f32⟩
  | 11 => ⟨S_, .f32⟩
  | 12 => ⟨S_, .i32⟩
  | 13 => ⟨S8x16x1024, .i32⟩
  | 14 => ⟨S_, .i32⟩
  | 15 => ⟨S8x64x1024, .f32⟩
  | 16 => ⟨S8x64, .f32⟩
  | 17 => ⟨S8x64, .f32⟩
  | 18 => ⟨S8x1024x64, .f32⟩
  | 19 => ⟨S8x1024, .f32⟩
  | 20 => ⟨S8x1024, .f32⟩
  | 21 => ⟨S8x1024x64, .f32⟩
  | 22 => ⟨S_, .i32⟩
  | 23 => ⟨S16x1024x1024, .f32⟩
  | 24 => ⟨S16x1024x1024, .f32⟩
  | 25 => ⟨S_, .f32⟩
  | 26 => ⟨S_, .f32⟩
  | 27 => ⟨S8x16x1024, .i32⟩
  | 28 => ⟨S_, .i32⟩
  | 29 => ⟨S_, .i1⟩
  | 30 => ⟨S_, .i32⟩
  | 31 => ⟨S_, .i32⟩
  | 32 => ⟨S1x64x1024, .f32⟩
  | 33 => ⟨S64x1024, .f32⟩
  | 34 => ⟨S_, .i32⟩
  | 35 => ⟨S1x64, .f32⟩
  | 36 => ⟨S64, .f32⟩
  | 37 => ⟨S_, .i32⟩
  | 38 => ⟨S1x64, .f32⟩
  | 39 => ⟨S64, .f32⟩
  | 40 => ⟨S_, .i32⟩
  | 41 => ⟨S_, .i32⟩
  | 42 => ⟨S1x1024x64, .f32⟩
  | 43 => ⟨S1024x64, .f32⟩
  | 44 => ⟨S_, .i32⟩
  | 45 => ⟨S1x1024, .f32⟩
  | 46 => ⟨S1024, .f32⟩
  | 47 => ⟨S_, .i32⟩
  | 48 => ⟨S1x1024, .f32⟩
  | 49 => ⟨S1024, .f32⟩
  | 50 => ⟨S_, .i32⟩
  | 51 => ⟨S_, .i32⟩
  | 52 => ⟨S1x1024x64, .f32⟩
  | 53 => ⟨S1024x64, .f32⟩
  | 54 => ⟨S64x1024, .f32⟩
  | 55 => ⟨S_, .f32⟩
  | 56 => ⟨S64, .f32⟩
  | 57 => ⟨S64x1, .f32⟩
  | 58 => ⟨S64x1, .f32⟩
  | 59 => ⟨S64x1, .f32⟩
  | 60 => ⟨S64x1024, .f32⟩
  | 61 => ⟨S64x1024, .f32⟩
  | 62 => ⟨S64x1024, .f32⟩
  | 63 => ⟨S64x1024, .f32⟩
  | 64 => ⟨S16x1024x64, .f32⟩
  | 65 => ⟨S16x64x1024, .f32⟩
  | 66 => ⟨S1x64x1, .f32⟩
  | 67 => ⟨S16x64x1024, .f32⟩
  | 68 => ⟨S16x64x1024, .f32⟩
  | 69 => ⟨S16x1024x64, .f32⟩
  | 70 => ⟨S16384x64, .f32⟩
  | 71 => ⟨S16384x64, .f32⟩
  | 72 => ⟨S_, .f32⟩
  | 73 => ⟨S16384, .f32⟩
  | 74 => ⟨S16384x1, .f32⟩
  | 75 => ⟨S16384x1, .f32⟩
  | 76 => ⟨S_, .f32⟩
  | 77 => ⟨S16384x1, .f32⟩
  | 78 => ⟨S16384x1, .f32⟩
  | 79 => ⟨S16384x64, .f32⟩
  | 80 => ⟨S16384x64, .f32⟩
  | 81 => ⟨S1024x64, .f32⟩
  | 82 => ⟨S_, .f32⟩
  | 83 => ⟨S1024, .f32⟩
  | 84 => ⟨S1024x1, .f32⟩
  | 85 => ⟨S1024x1, .f32⟩
  | 86 => ⟨S_, .f32⟩
  | 87 => ⟨S1024x1, .f32⟩
  | 88 => ⟨S1024x1, .f32⟩
  | 89 => ⟨S1024x64, .f32⟩
  | 90 => ⟨S1024x64, .f32⟩
  | 91 => ⟨S16384x64, .f32⟩
  | 92 => ⟨S_, .f32⟩
  | 93 => ⟨S16384, .f32⟩
  | 94 => ⟨S16384x1, .f32⟩
  | 95 => ⟨S_, .f32⟩
  | 96 => ⟨S16384x64, .f32⟩
  | 97 => ⟨S16384x64, .f32⟩
  | 98 => ⟨S64x1024, .f32⟩
  | 99 => ⟨S16384x1024, .f32⟩
  | 100 => ⟨S16384x1024, .f32⟩
  | 101 => ⟨S16384x1024, .f32⟩
  | 102 => ⟨S1024x64, .f32⟩
  | 103 => ⟨S_, .f32⟩
  | 104 => ⟨S1024, .f32⟩
  | 105 => ⟨S1x1024, .f32⟩
  | 106 => ⟨S16384x1024, .f32⟩
  | 107 => ⟨S16384x1024, .f32⟩
  | 108 => ⟨S16384x1024, .f32⟩
  | 109 => ⟨S16384x1024, .i32⟩
  | 110 => ⟨S_, .f32⟩
  | 111 => ⟨S_, .i32⟩
  | 112 => ⟨S16384, .f32⟩
  | 113 => ⟨S16384, .i32⟩
  | 114 => ⟨S16x1024, .i32⟩
  | 115 => ⟨S_, .i32⟩
  | 116 => ⟨S16x1024, .i32⟩
  | 117 => ⟨S16x1024, .i1⟩
  | 118 => ⟨S_, .i32⟩
  | 119 => ⟨S16x1024, .i32⟩
  | 120 => ⟨S16x1024, .i32⟩
  | 121 => ⟨S16x1024, .i32⟩
  | 122 => ⟨S16x1024x1, .i32⟩
  | 123 => ⟨S1, .i32⟩
  | 124 => ⟨S_, .i32⟩
  | 125 => ⟨S16x1024x1, .i32⟩
  | 126 => ⟨S16x1024x1, .i1⟩
  | 127 => ⟨S1x1x1, .i32⟩
  | _ => ⟨S16x1024x1024, .f32⟩

abbrev hbmTy0_1 (i : Nat) : BufTy := match i % 128 with
  | 0 => ⟨S16x1024x1, .i32⟩
  | 1 => ⟨S16x1024x1, .i1⟩
  | 2 => ⟨S16x1024x1, .i1⟩
  | 3 => ⟨S_, .i1⟩
  | 4 => ⟨S16x1024, .i1⟩
  | 5 => ⟨S16x1024x64, .f32⟩
  | 6 => ⟨S16x1024x64, .i1⟩
  | 7 => ⟨S_, .f32⟩
  | 8 => ⟨S16x1024x64, .f32⟩
  | 9 => ⟨S16x1024x64, .f32⟩
  | 10 => ⟨S16x64x1024, .f32⟩
  | 11 => ⟨S16x64x1024, .f32⟩
  | 12 => ⟨S16x64x1024, .f32⟩
  | 13 => ⟨S_, .f32⟩
  | 14 => ⟨S16, .f32⟩
  | 15 => ⟨S_, .f32⟩
  | 16 => ⟨S16, .f32⟩
  | 17 => ⟨S16, .f32⟩
  | 18 => ⟨S16x64x1024, .f32⟩
  | 19 => ⟨S16x64x1024, .f32⟩
  | 20 => ⟨S_, .f32⟩
  | 21 => ⟨S16, .f32⟩
  | 22 => ⟨S_, .f32⟩
  | 23 => ⟨S16, .f32⟩
  | 24 => ⟨S16, .f32⟩
  | 25 => ⟨S16x64x1024, .f32⟩
  | 26 => ⟨S16x64x1024, .f32⟩
  | 27 => ⟨S1024x64, .f32⟩
  | 28 => ⟨S_, .f32⟩
  | 29 => ⟨S1024, .f32⟩
  | 30 => ⟨S1024x1, .f32⟩
  | 31 => ⟨S1024x1, .f32⟩
  | 32 => ⟨S1024x1, .f32⟩
  | 33 => ⟨S1024x64, .f32⟩
  | 34 => ⟨S1024x64, .f32⟩
  | 35 => ⟨S1024x64, .f32⟩
  | 36 => ⟨S1024x64, .f32⟩
  | 37 => ⟨S16x1024x1024, .f32⟩
  | 38 => ⟨S16x1024x1024, .f32⟩
  | 39 => ⟨S1x1024x1, .f32⟩
  | 40 => ⟨S16x1024x1024, .f32⟩
  | 41 => ⟨S16x1024x1024, .f32⟩
  | 42 => ⟨S_, .f32⟩
  | 43 => ⟨S16, .f32⟩
  | 44 => ⟨S16x1x1, .f32⟩
  | 45 => ⟨S16x1024x1024, .f32⟩
  | 46 => ⟨S16x1024x1024, .f32⟩
  | 47 => ⟨S16x1024x1024, .f32⟩
  | 48 => ⟨S16x1024x1024, .f32⟩
  | 49 => ⟨S16, .f32⟩
  | 50 => ⟨S_, .f32⟩
  | 51 => ⟨S_, .f32⟩
  | 52 => ⟨S_, .f32⟩
  | 53 => ⟨S_, .f32⟩
  | 54 => ⟨S_, .f32⟩
  | 55 => ⟨S16, .f32⟩
  | 56 => ⟨S_, .f32⟩
  | 57 => ⟨S_, .f32⟩
  | 58 => ⟨S_, .f32⟩
  | 59 => ⟨S_, .f32⟩
  | 60 => ⟨S_, .f32⟩
  | 61 => ⟨S1x16x1024, .i32⟩
  | 62 => ⟨S_, .i32⟩
  | 63 => ⟨S_, .i32⟩
  | 64 => ⟨S8x16x1024, .i32⟩
  | 65 => ⟨S_, .i32⟩
  | 66 => ⟨S_, .i32⟩
  | 67 => ⟨S16x8x1024, .i32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_cst_1 : Ref sig .tc := ⟨.hbm, 11, rfl⟩
abbrev main_c : Ref sig .tc := ⟨.hbm, 12, rfl⟩
abbrev main_v1 : Ref sig .tc := ⟨.hbm, 13, rfl⟩
abbrev main_c_2 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v2_5 : Ref sig .tc := ⟨.hbm, 20, rfl⟩
abbrev main_v2_6 : Ref sig .tc := ⟨.hbm, 21, rfl⟩
abbrev main_v2_7 : Ref sig .tc := ⟨.hbm, 22, rfl⟩
abbrev main_v2_8 : Ref sig .tc := ⟨.hbm, 23, rfl⟩
abbrev main_v2_9 : Ref sig .tc := ⟨.hbm, 24, rfl⟩
abbrev main_v2_10 : Ref sig .tc := ⟨.hbm, 25, rfl⟩
abbrev main_v2_11 : Ref sig .tc := ⟨.hbm, 26, rfl⟩
abbrev main_v2_12 : Ref sig .tc := ⟨.hbm, 27, rfl⟩
abbrev main_while0c_c_15 : Ref sig .tc := ⟨.hbm, 28, rfl⟩
abbrev main_while0c_v4 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v4 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v5 : Ref sig .tc := ⟨.hbm, 36, rfl⟩
abbrev main_while0b_call2_c : Ref sig .tc := ⟨.hbm, 37, rfl⟩
abbrev main_while0b_call2_v0 : Ref sig .tc := ⟨.hbm, 38, rfl⟩
abbrev main_while0b_v6 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_v0 : Ref sig .tc := ⟨.hbm, 42, rfl⟩
abbrev main_while0b_v7 : Ref sig .tc := ⟨.hbm, 43, rfl⟩
abbrev main_while0b_call4_c : Ref sig .tc := ⟨.hbm, 44, rfl⟩
abbrev main_while0b_call4_v0 : Ref sig .tc := ⟨.hbm, 45, rfl⟩
abbrev main_while0b_v8 : Ref sig .tc := ⟨.hbm, 46, rfl⟩
abbrev main_while0b_call5_c : Ref sig .tc := ⟨.hbm, 47, rfl⟩
abbrev main_while0b_call5_v0 : Ref sig .tc := ⟨.hbm, 48, rfl⟩
abbrev main_while0b_v9 : Ref sig .tc := ⟨.hbm, 49, rfl⟩
abbrev main_while0b_call6_c : Ref sig .tc := ⟨.hbm, 50, rfl⟩
abbrev main_while0b_call6_c_0 : Ref sig .tc := ⟨.hbm, 51, rfl⟩
abbrev main_while0b_call6_v0 : Ref sig .tc := ⟨.hbm, 52, rfl⟩
abbrev main_while0b_v10 : Ref sig .tc := ⟨.hbm, 53, rfl⟩
abbrev main_while0b_v11 : Ref sig .tc := ⟨.hbm, 54, rfl⟩
abbrev main_while0b_cst_15 : Ref sig .tc := ⟨.hbm, 55, rfl⟩
abbrev main_while0b_v12 : Ref sig .tc := ⟨.hbm, 56, rfl⟩
abbrev main_while0b_v13 : Ref sig .tc := ⟨.hbm, 57, rfl⟩
abbrev main_while0b_v14 : Ref sig .tc := ⟨.hbm, 58, rfl⟩
abbrev main_while0b_v15 : Ref sig .tc := ⟨.hbm, 59, rfl⟩
abbrev main_while0b_v16 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_cst_16 : Ref sig .tc := ⟨.hbm, 72, rfl⟩
abbrev main_while0b_v28 : Ref sig .tc := ⟨.hbm, 73, rfl⟩
abbrev main_while0b_v29 : Ref sig .tc := ⟨.hbm, 74, rfl⟩
abbrev main_while0b_v30 : Ref sig .tc := ⟨.hbm, 75, rfl⟩
abbrev main_while0b_cst_17 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_cst_18 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_cst_19 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_cst_20 : Ref sig .tc := ⟨.hbm, 92, rfl⟩
abbrev main_while0b_v44 : Ref sig .tc := ⟨.hbm, 93, rfl⟩
abbrev main_while0b_v45 : Ref sig .tc := ⟨.hbm, 94, rfl⟩
abbrev main_while0b_cst_21 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_cst_22 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_call7_v0 : Ref sig .tc := ⟨.hbm, 109, rfl⟩
abbrev main_while0b_call7_cst : Ref sig .tc := ⟨.hbm, 110, rfl⟩
abbrev main_while0b_call7_c : Ref sig .tc := ⟨.hbm, 111, rfl⟩
abbrev main_while0b_call7_v1_0 : Ref sig .tc := ⟨.hbm, 112, rfl⟩
abbrev main_while0b_v58 : Ref sig .tc := ⟨.hbm, 113, rfl⟩
abbrev main_while0b_v59 : Ref sig .tc := ⟨.hbm, 114, rfl⟩
abbrev main_while0b_call8_c : Ref sig .tc := ⟨.hbm, 115, rfl⟩
abbrev main_while0b_call8_v0 : Ref sig .tc := ⟨.hbm, 116, rfl⟩
abbrev main_while0b_call8_v1 : Ref sig .tc := ⟨.hbm, 117, rfl⟩
abbrev main_while0b_call8_c_0 : Ref sig .tc := ⟨.hbm, 118, rfl⟩
abbrev main_while0b_call8_v2 : Ref sig .tc := ⟨.hbm, 119, rfl⟩
abbrev main_while0b_call8_v3 : Ref sig .tc := ⟨.hbm, 120, rfl⟩
abbrev main_while0b_call8_v4 : Ref sig .tc := ⟨.hbm, 121, rfl⟩
abbrev main_while0b_call8_v5 : Ref sig .tc := ⟨.hbm, 122, rfl⟩
abbrev main_while0b_call8_c_1 : Ref sig .tc := ⟨.hbm, 123, rfl⟩
abbrev main_while0b_call8_c_2 : Ref sig .tc := ⟨.hbm, 124, rfl⟩
abbrev main_while0b_call8_v6 : Ref sig .tc := ⟨.hbm, 125, rfl⟩
abbrev main_while0b_call8_v7 : Ref sig .tc := ⟨.hbm, 126, rfl⟩
abbrev main_while0b_call8_v8 : Ref sig .tc := ⟨.hbm, 127, rfl⟩
abbrev main_while0b_call8_v9 : Ref sig .tc := ⟨.hbm, 128, rfl⟩
abbrev main_while0b_call8_v10 : Ref sig .tc := ⟨.hbm, 129, rfl⟩
abbrev main_while0b_call8_v11 : Ref sig .tc := ⟨.hbm, 130, rfl⟩
abbrev main_while0b_call8_c_3 : Ref sig .tc := ⟨.hbm, 131, rfl⟩
abbrev main_while0b_call8_v12 : Ref sig .tc := ⟨.hbm, 132, rfl⟩
abbrev main_while0b_call8_v13 : Ref sig .tc := ⟨.hbm, 133, rfl⟩
abbrev main_while0b_call8_v14 : Ref sig .tc := ⟨.hbm, 134, rfl⟩
abbrev main_while0b_call8_cst : Ref sig .tc := ⟨.hbm, 135, rfl⟩
abbrev main_while0b_call8_v15 : Ref sig .tc := ⟨.hbm, 136, rfl⟩
abbrev main_while0b_v60 : Ref sig .tc := ⟨.hbm, 137, rfl⟩
abbrev main_while0b_v61 : Ref sig .tc := ⟨.hbm, 138, rfl⟩
abbrev main_while0b_v62 : Ref sig .tc := ⟨.hbm, 139, rfl⟩
abbrev main_while0b_v63 : Ref sig .tc := ⟨.hbm, 140, rfl⟩
abbrev main_while0b_cst_23 : Ref sig .tc := ⟨.hbm, 141, rfl⟩
abbrev main_while0b_v64 : Ref sig .tc := ⟨.hbm, 142, rfl⟩
abbrev main_while0b_cst_24 : Ref sig .tc := ⟨.hbm, 143, rfl⟩
abbrev main_while0b_v65 : Ref sig .tc := ⟨.hbm, 144, rfl⟩
abbrev main_while0b_v66 : Ref sig .tc := ⟨.hbm, 145, rfl⟩
abbrev main_while0b_v67 : Ref sig .tc := ⟨.hbm, 146, rfl⟩
abbrev main_while0b_v68 : Ref sig .tc := ⟨.hbm, 147, rfl⟩
abbrev main_while0b_cst_25 : Ref sig .tc := ⟨.hbm, 148, rfl⟩
abbrev main_while0b_v69 : Ref sig .tc := ⟨.hbm, 149, rfl⟩
abbrev main_while0b_cst_26 : Ref sig .tc := ⟨.hbm, 150, rfl⟩
abbrev main_while0b_v70 : Ref sig .tc := ⟨.hbm, 151, rfl⟩
abbrev main_while0b_v71 : Ref sig .tc := ⟨.hbm, 152, rfl⟩
abbrev main_while0b_v72 : Ref sig .tc := ⟨.hbm, 153, rfl⟩
abbrev main_while0b_v73 : Ref sig .tc := ⟨.hbm, 154, rfl⟩
abbrev main_while0b_v74 : Ref sig .tc := ⟨.hbm, 155, rfl⟩
abbrev main_while0b_cst_27 : Ref sig .tc := ⟨.hbm, 156, rfl⟩
abbrev main_while0b_v75 : Ref sig .tc := ⟨.hbm, 157, rfl⟩
abbrev main_while0b_v76 : Ref sig .tc := ⟨.hbm, 158, rfl⟩
abbrev main_while0b_v77 : Ref sig .tc := ⟨.hbm, 159, rfl⟩
abbrev main_while0b_v78 : Ref sig .tc := ⟨.hbm, 160, rfl⟩
abbrev main_while0b_v79 : Ref sig .tc := ⟨.hbm, 161, rfl⟩
abbrev main_while0b_v80 : Ref sig .tc := ⟨.hbm, 162, rfl⟩
abbrev main_while0b_v81 : Ref sig .tc := ⟨.hbm, 163, rfl⟩
abbrev main_while0b_v82 : Ref sig .tc := ⟨.hbm, 164, rfl⟩
abbrev main_while0b_v83 : Ref sig .tc := ⟨.hbm, 165, rfl⟩
abbrev main_while0b_v84 : Ref sig .tc := ⟨.hbm, 166, rfl⟩
abbrev main_while0b_v85 : Ref sig .tc := ⟨.hbm, 167, rfl⟩
abbrev main_while0b_v86 : Ref sig .tc := ⟨.hbm, 168, rfl⟩
abbrev main_while0b_v87 : Ref sig .tc := ⟨.hbm, 169, rfl⟩
abbrev main_while0b_cst_28 : Ref sig .tc := ⟨.hbm, 170, rfl⟩
abbrev main_while0b_v88 : Ref sig .tc := ⟨.hbm, 171, rfl⟩
abbrev main_while0b_v89 : Ref sig .tc := ⟨.hbm, 172, rfl⟩
abbrev main_while0b_v90 : Ref sig .tc := ⟨.hbm, 173, rfl⟩
abbrev main_while0b_v91 : Ref sig .tc := ⟨.hbm, 174, rfl⟩
abbrev main_while0b_v92 : Ref sig .tc := ⟨.hbm, 175, rfl⟩
abbrev main_while0b_v93 : Ref sig .tc := ⟨.hbm, 176, rfl⟩
abbrev main_while0b_v94 : Ref sig .tc := ⟨.hbm, 177, rfl⟩
abbrev main_while0b_cst_29 : Ref sig .tc := ⟨.hbm, 178, rfl⟩
abbrev main_while0b_v95 : Ref sig .tc := ⟨.hbm, 179, rfl⟩
abbrev main_while0b_cst_30 : Ref sig .tc := ⟨.hbm, 180, rfl⟩
abbrev main_while0b_v96 : Ref sig .tc := ⟨.hbm, 181, rfl⟩
abbrev main_while0b_v97 : Ref sig .tc := ⟨.hbm, 182, rfl⟩
abbrev main_while0b_v98 : Ref sig .tc := ⟨.hbm, 183, rfl⟩
abbrev main_while0b_cst_31 : Ref sig .tc := ⟨.hbm, 184, rfl⟩
abbrev main_while0b_v99 : Ref sig .tc := ⟨.hbm, 185, rfl⟩
abbrev main_while0b_cst_32 : Ref sig .tc := ⟨.hbm, 186, rfl⟩
abbrev main_while0b_v100 : Ref sig .tc := ⟨.hbm, 187, rfl⟩
abbrev main_while0b_v101 : Ref sig .tc := ⟨.hbm, 188, rfl⟩
abbrev main_while0b_call9_v0 : Ref sig .tc := ⟨.hbm, 189, rfl⟩
abbrev main_while0b_call9_c : Ref sig .tc := ⟨.hbm, 190, rfl⟩
abbrev main_while0b_call9_c_0 : Ref sig .tc := ⟨.hbm, 191, rfl⟩
abbrev main_while0b_v102 : Ref sig .tc := ⟨.hbm, 192, rfl⟩
abbrev main_while0b_c_33 : Ref sig .tc := ⟨.hbm, 193, rfl⟩
abbrev main_while0b_v103 : Ref sig .tc := ⟨.hbm, 194, rfl⟩
abbrev main_v3 : Ref sig .tc := ⟨.hbm, 195, rfl⟩

abbrev nD : Nat := 1
abbrev τ : Topo := Topo.v7x

variable {F : FTy → Type} [FloatOps F]

abbrev main_while0_count : Scf.Loop 32 := ⟨0#32, 8#32, 1#32⟩
-- ==== Proof.Spec.lean ====
/- The mathematics of one layer of the quantizer on one column (the features of one token), over the extended reals:
   what both programs compute, stated once. -/
module

public import Idealize.ShloMosaic.Lib.Pointwise

@[expose] public section

noncomputable section

namespace Cert.Spec

open Idealize.ShloMosaic

/-- What one layer reads: the weights and biases of the two projections, the normalised codebook rows and their squared
    lengths, and the codebook with its axes swapped. -/
structure Lay where
  win : Fin 64 → Fin 1024 → EReal
  bin : Fin 64 → EReal
  wout : Fin 1024 → Fin 64 → EReal
  bout : Fin 1024 → EReal
  cbn : Fin 1024 → Fin 64 → EReal
  cbt : Fin 64 → Fin 1024 → EReal
  c2 : Fin 1024 → EReal

/-- The first row at which `d` is smallest. -/
theorem exists_first (d : Fin 1024 → EReal) : ∃ a, (∀ k, d a ≤ d k) ∧ ∀ k < a, d a < d k := by
  classical
  let S := (Finset.univ : Finset (Fin 1024)).filter fun a => ∀ k, d a ≤ d k
  have hS : S.Nonempty := by
    obtain ⟨a, _, ha⟩ := Finset.exists_min_image (Finset.univ : Finset (Fin 1024)) d ⟨0, Finset.mem_univ _⟩
    exact ⟨a, Finset.mem_filter.mpr ⟨Finset.mem_univ _, fun k => ha k (Finset.mem_univ _)⟩⟩
  refine ⟨S.min' hS, (Finset.mem_filter.mp (S.min'_mem hS)).2, fun k hk => ?_⟩
  by_contra h
  have hk' : k ∈ S := Finset.mem_filter.mpr ⟨Finset.mem_univ _, fun l =>
    (not_lt.mp h).trans ((Finset.mem_filter.mp (S.min'_mem hS)).2 l)⟩
  exact absurd (S.min'_le k hk') (not_le.mpr hk)

def amin (d : Fin 1024 → EReal) : Fin 1024 := (exists_first d).choose

theorem amin_le (d : Fin 1024 → EReal) (k : Fin 1024) : d (amin d) ≤ d k := (exists_first d).choose_spec.1 k

theorem amin_lt (d : Fin 1024 → EReal) (k : Fin 1024) (h : k < amin d) : d (amin d) < d k := (exists_first d).choose_spec.2 k h

theorem amin_eq (d : Fin 1024 → EReal) (a : Fin 1024) (h₁ : ∀ k, d a ≤ d k) (h₂ : ∀ k < a, d a < d k) : amin d = a := by
  rcases lt_trichotomy (amin d) a with h | h | h
  · exact absurd (h₂ _ h) (not_lt.mpr (amin_le d a))
  · exact h
  · exact absurd (amin_lt d _ h) (not_lt.mpr (h₁ _))

variable (L : Lay) (x : Fin 1024 → EReal)

/-- The projected column. -/
def ze (o : Fin 64) : EReal := (∑ c, L.win o c * x c) + L.bin o
/-- Its norm, bounded below. -/
def nrm : EReal := max (Ideal.sqrt (∑ o, ze L x o * ze L x o)) (Ideal.ofBits .f32 0x2B8CBCCC#32)
/-- The projected column normalised. -/
def zn (o : Fin 64) : EReal := Ideal.div (ze L x o) (nrm L x)
/-- The distance to each codebook row. -/
def dist (k : Fin 1024) : EReal :=
  ((∑ o, zn L x o * zn L x o) - Ideal.ofBits .f32 0x40000000#32 * ∑ o, L.cbn k o * zn L x o) + L.c2 k
/-- The row taken. -/
def idx : Fin 1024 := amin (dist L x)
/-- The codebook row taken. -/
def zq (o : Fin 64) : EReal := L.cbt o (idx L x)
/-- The layer's output. -/
def out (d : Fin 1024) : EReal := (∑ o, L.wout d o * zq L x o) + L.bout d
/-- What is left for the next layer. -/
def next (d : Fin 1024) : EReal := x d - out L x d
/-- The squared error of the layer. -/
def err : EReal := ∑ o, (ze L x o - zq L x o) * (ze L x o - zq L x o)

/-- What is left after `n` layers. -/
def res (L : ℕ → Lay) (x : Fin 1024 → EReal) : ℕ → Fin 1024 → EReal
  | 0 => x
  | n + 1 => next (L n) (res L x n)

end Cert.Spec

end
-- ==== Proof.Layers.lean ====
/- The layers over the arguments: the two weights are rows scaled to a given length, the codebook rows are normalised. -/
module

public import proofs.«01_k».proof.Proof.Spec

@[expose] public section

noncomputable section

namespace Cert.Spec

open Idealize.ShloMosaic

/-- A row of `v` divided by its length and scaled by `g`. -/
def wn {a b : ℕ} (v : Fin a → Fin b → EReal) (g : Fin a → EReal) (i : Fin a) (j : Fin b) : EReal :=
  Ideal.div (g i * v i j) (Ideal.sqrt (∑ k, v i k * v i k))

/-- A row of `e` divided by its length, which is bounded below. -/
def un {a b : ℕ} (e : Fin a → Fin b → EReal) (i : Fin a) (j : Fin b) : EReal :=
  Ideal.div (e i j) (max (Ideal.sqrt (∑ k, e i k * e i k)) (Ideal.ofBits .f32 0x2B8CBCCC#32))

/-- Layer `n` over the eight-layer stacks of the arguments. -/
def layOf (vi : Fin 8 → Fin 64 → Fin 1024 → EReal) (gi bi : Fin 8 → Fin 64 → EReal) (vo : Fin 8 → Fin 1024 → Fin 64 → EReal)
    (go bo : Fin 8 → Fin 1024 → EReal) (e : Fin 8 → Fin 1024 → Fin 64 → EReal) (n : ℕ) : Lay where
  win := wn (vi (Fin.ofNat 8 n)) (gi (Fin.ofNat 8 n))
  bin := bi (Fin.ofNat 8 n)
  wout := wn (vo (Fin.ofNat 8 n)) (go (Fin.ofNat 8 n))
  bout := bo (Fin.ofNat 8 n)
  cbn := un (e (Fin.ofNat 8 n))
  cbt o k := e (Fin.ofNat 8 n) k o
  c2 k := ∑ o, un (e (Fin.ofNat 8 n)) k o * un (e (Fin.ofNat 8 n)) k o

end Cert.Spec

end
-- ==== Proof.Finite.lean ====
/- Where the arguments are real numbers, so is everything that the layers compute on the way to the output, and the
   identities that hold of real numbers alone. -/
module

public import proofs.«01_k».proof.Proof.Layers

@[expose] public section

noncomputable section

namespace Cert.Spec

open Idealize.ShloMosaic

/-- `x` is a real number. -/
def IsR (x : EReal) : Prop := ∃ r : ℝ, x = (r : EReal)

theorem IsR.add {x y : EReal} : IsR x → IsR y → IsR (x + y) := fun ⟨a, h⟩ ⟨b, k⟩ => ⟨a + b, by rw [h, k, EReal.coe_add]⟩
theorem IsR.sub {x y : EReal} : IsR x → IsR y → IsR (x - y) := fun ⟨a, h⟩ ⟨b, k⟩ => ⟨a - b, by rw [h, k, EReal.coe_sub]⟩
theorem IsR.mul {x y : EReal} : IsR x → IsR y → IsR (x * y) := fun ⟨a, h⟩ ⟨b, k⟩ => ⟨a * b, by rw [h, k, EReal.coe_mul]⟩

theorem IsR.sum {n : ℕ} {f : Fin n → EReal} (h : ∀ i, IsR (f i)) : IsR (∑ i, f i) := by
  choose r hr using h
  refine ⟨∑ i, r i, ?_⟩
  simp only [hr]
  exact (map_sum (⟨⟨Real.toEReal, EReal.coe_zero⟩, EReal.coe_add⟩ : ℝ →+ EReal) r Finset.univ).symm

/-- The straight-through sum is the value passed through. -/
theorem IsR.add_sub {x y : EReal} : IsR x → IsR y → x + (y - x) = y := by
  rintro ⟨a, rfl⟩ ⟨b, rfl⟩
  rw [← EReal.coe_sub, ← EReal.coe_add]
  congr 1
  ring

theorem IsR.sq_comm {x y : EReal} : IsR x → IsR y → (y - x) * (y - x) = (x - y) * (x - y) := by
  rintro ⟨a, rfl⟩ ⟨b, rfl⟩
  rw [← EReal.coe_sub, ← EReal.coe_sub, ← EReal.coe_mul, ← EReal.coe_mul]
  congr 1
  ring

/-- What `x` loses from `a` to the next value adds to what it lost before. -/
theorem IsR.sub_add {x a b : EReal} : IsR x → IsR a → IsR b → (x - a) + b = x - (a - b) := by
  rintro ⟨x, rfl⟩ ⟨a, rfl⟩ ⟨b, rfl⟩
  rw [← EReal.coe_sub, ← EReal.coe_sub, ← EReal.coe_sub, ← EReal.coe_add]
  congr 1
  ring

/-- A row that is not all zero, scaled, is real. -/
theorem IsR.wn {a b : ℕ} {v : Fin a → Fin b → EReal} {g : Fin a → EReal} (hv : ∀ i j, IsR (v i j)) (hg : ∀ i, IsR (g i))
    (hp : ∀ i, 0 < ∑ k, v i k * v i k) (i : Fin a) (j : Fin b) : IsR (wn v g i j) := by
  unfold Spec.wn
  obtain ⟨s, hs⟩ := IsR.sum fun k => (hv i k).mul (hv i k)
  have hs' : 0 < s := by have := hp i; rw [hs] at this; exact_mod_cast this
  have hq : Real.sqrt s ≠ 0 := (Real.sqrt_pos.mpr hs').ne'
  rw [hs, Ideal.sqrt_coe, if_neg (not_lt.mpr hs'.le), Ideal.div_coe hq]
  exact ((hg i).mul (hv i j)).mul ⟨_, rfl⟩

/-- The layer's arrays that reach the output are real. -/
structure Lay.Fine (L : Lay) : Prop where
  win : ∀ o c, IsR (L.win o c)
  bin : ∀ o, IsR (L.bin o)
  wout : ∀ d o, IsR (L.wout d o)
  bout : ∀ d, IsR (L.bout d)
  cbt : ∀ o k, IsR (L.cbt o k)

variable {L : Lay} {x : Fin 1024 → EReal}

theorem Lay.Fine.ze (h : L.Fine) (hx : ∀ c, IsR (x c)) (o : Fin 64) : IsR (Spec.ze L x o) :=
  (IsR.sum fun c => (h.win o c).mul (hx c)).add (h.bin o)

theorem Lay.Fine.zq (h : L.Fine) (x : Fin 1024 → EReal) (o : Fin 64) : IsR (Spec.zq L x o) := h.cbt _ _

theorem Lay.Fine.out (h : L.Fine) (x : Fin 1024 → EReal) (d : Fin 1024) : IsR (Spec.out L x d) :=
  (IsR.sum fun o => (h.wout d o).mul (h.zq x o)).add (h.bout d)

theorem res_real {L : ℕ → Lay} (h : ∀ n, (L n).Fine) (hx : ∀ c, IsR (x c)) (n : ℕ) (c : Fin 1024) : IsR (res L x n c) := by
  induction n generalizing c with
  | zero => exact hx c
  | succ n ih => exact (ih c).sub ((h n).out _ c)

/-- A real number not below zero goes into a sum. -/
theorem mul_sum {n : ℕ} (f : Fin n → EReal) {r : ℝ} (hr : 0 ≤ r) : (r : EReal) * ∑ i, f i = ∑ i, (r : EReal) * f i := by
  have key : ∀ S : Finset (Fin n), (r : EReal) * ∑ i ∈ S, f i = ∑ i ∈ S, (r : EReal) * f i := fun S => by
    induction S using Finset.cons_induction with
    | empty => simp
    | cons a S ha ih =>
      rw [Finset.sum_cons, Finset.sum_cons, EReal.left_distrib_of_nonneg_of_ne_top (by exact_mod_cast hr) (EReal.coe_ne_top r), ih]
  exact key Finset.univ

theorem sum_mul {n : ℕ} (f : Fin n → EReal) {r : ℝ} (hr : 0 ≤ r) : (∑ i, f i) * (r : EReal) = ∑ i, f i * (r : EReal) := by
  rw [mul_comm, mul_sum f hr]
  exact Finset.sum_congr rfl fun i _ => mul_comm _ _

/-! ## The literals -/

theorem two_eq : Ideal.ofBits .f32 0x40000000#32 = ((2 : ℝ) : EReal) := by
  simp [Ideal.ofBits, Ideal.ieee, -EReal.coe_mul]; norm_num
theorem sixteen_eq : Ideal.ofBits .f32 0x41800000#32 = ((16 : ℝ) : EReal) := by
  simp [Ideal.ofBits, Ideal.ieee, -EReal.coe_mul]; norm_num
theorem count_eq : Ideal.ofBits .f32 0x47800000#32 = ((65536 : ℝ) : EReal) := by
  simp [Ideal.ofBits, Ideal.ieee, -EReal.coe_mul]; norm_num
theorem total_eq : Ideal.ofBits .f32 0x49800000#32 = ((1048576 : ℝ) : EReal) := by
  simp [Ideal.ofBits, Ideal.ieee, -EReal.coe_mul]; norm_num
theorem one_eq : Ideal.ofBits .f32 0x3F800000#32 = (1 : EReal) := by
  simp [Ideal.ofBits, Ideal.ieee, -EReal.coe_mul]; norm_num

/-- A mean over a batch, then over the sixteen batches, is the sum over everything divided by the count. -/
theorem means_eq (f : Fin 16 → EReal) :
    Ideal.div (∑ i, Ideal.div (f i) (Ideal.ofBits .f32 0x47800000#32) * Ideal.ofBits .f32 0x3F800000#32) (Ideal.ofBits .f32 0x41800000#32)
      = (∑ i, f i) * ((1 / 1048576 : ℝ) : EReal) := by
  rw [count_eq, one_eq, sixteen_eq]
  simp only [Ideal.div_coe (show (65536 : ℝ) ≠ 0 by norm_num), Ideal.div_coe (show (16 : ℝ) ≠ 0 by norm_num), mul_one]
  rw [← sum_mul f (by norm_num), mul_assoc, ← EReal.coe_mul]
  norm_num

end Cert.Spec

end
-- ==== Proof.PreData.lean ====
/- What the precondition says of the arguments: every entry is a real number, and no row that is divided by its length is
   all zero. So every layer reads real arrays. -/
module

public import proofs.«01_k».proof.Proof.Gen.Pre_real_data
public import proofs.«01_k».proof.Proof.Finite
public import Idealize.ShloMosaic.Lib.ReduceAll
public import Idealize.ShloMosaic.Lib.Pointwise

@[expose] public section

set_option maxRecDepth 16384

noncomputable section

namespace Cert.PreData

open Cert.Pre_real_data Cert.Pre_real_data.Gen Idealize.ShloMosaic

theorem real_of (x : EReal) (h : Ideal.cmp .olt (max x (-x)) (Ideal.ofBits .f32 0x7F800000#32) = 1#1) : Spec.IsR x := by
  have htop : Ideal.ofBits .f32 0x7F800000#32 = ⊤ := by simp [Ideal.ofBits, Ideal.ieee]
  rw [htop] at h
  have hl : max x (-x) < ⊤ := (Ideal.cmp_olt_eq_one _ _).mp h
  induction x with
  | bot => simp at hl
  | top => simp at hl
  | coe r => exact ⟨r, rfl⟩

/-- A conjunction is true when both sides are. -/
theorem both_iff (x y : IVec S_ 1) (j : S_.Idx) : andi x y j = 1#1 ↔ x j = 1#1 ∧ y j = 1#1 := IntOp.andi_eq_one

instance : Subsingleton S_.Idx := ⟨fun a b => funext fun k => k.elim0⟩

/-- An array whose entries all pass the test has real entries. -/
theorem all_real {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : Spec.IsR (x i) :=
  real_of (x i) (Host.reduce_andi_all _ _ h hu j e i)

theorem pos_of {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .ogt x (broadcastInDim s ![] hb (constant S_ .f32 0x00000000#32)))
      (constantI S_ 1 1#1) h hu j = 1#1) (i : s.Idx) : (0 : EReal) < x i := by
  have h1 : Ideal.cmp .ogt (x i) (Ideal.ofBits .f32 0x00000000#32) = 1#1 := Host.reduce_andi_all _ _ h hu j e i
  rw [Ideal.ofBits_zero_f32] at h1
  exact (Ideal.cmp_ogt_eq_one _ _).mp h1

variable (z : FVec Ideal S16x1024x1024 .f32) (wi : FVec Ideal S8x64x1024 .f32) (gi bi : FVec Ideal S8x64 .f32)
  (wo : FVec Ideal S8x1024x64 .f32) (go bo : FVec Ideal S8x1024 .f32) (e : FVec Ideal S8x1024x64 .f32)

theorem rows_in (k : Fin 8) (i : Fin 64) : (Host.reduceAdd (mulf wi wi) (constant S_ .f32 0x00000000#32) reducesTo_S8x64x1024_S8x64_d2 h_S_) (ix2 k i)
    = ∑ j : Fin 1024, wi (ix3 k i j) * wi (ix3 k i j) := by
  pointwise

theorem rows_out (k : Fin 8) (i : Fin 1024) : (Host.reduceAdd (mulf wo wo) (constant S_ .f32 0x00000000#32) reducesTo_S8x1024x64_S8x1024_d2 h_S_) (ix2 k i)
    = ∑ j : Fin 64, wo (ix3 k i j) * wo (ix3 k i j) := by
  pointwise

theorem decode (h : fn (F := Ideal) z wi gi bi wo go bo e = fun _ => 1#1) : (∀ i, Spec.IsR (z i)) ∧ ∀ n, (Spec.layOf (fun k i j => wi (ix3 k i j))
    (fun k i => gi (ix2 k i)) (fun k i => bi (ix2 k i)) (fun k i j => wo (ix3 k i j)) (fun k i => go (ix2 k i)) (fun k i => bo (ix2 k i))
    (fun k i j => e (ix3 k i j)) n).Fine := by
  have h := congrFun h (fun k => k.elim0)
  simp only [fn, fn_part1, fn_part2, fn_part3, both_iff] at h
  obtain ⟨⟨⟨⟨⟨⟨⟨⟨⟨h0, h1⟩, h2⟩, h3⟩, h4⟩, h5⟩, h6⟩, h7⟩, h8⟩, h9⟩ := h
  have p8 := pos_of _ _ _ _ _ h8
  have p9 := pos_of _ _ _ _ _ h9
  exact ⟨all_real z _ _ _ _ h0, fun n => {
    win := fun o c => Spec.IsR.wn (fun i j => all_real wi _ _ _ _ h1 _) (fun i => all_real gi _ _ _ _ h2 _)
      (fun i => (p8 (ix2 _ i)).trans_eq (rows_in wi _ i)) o c
    bin := fun o => all_real bi _ _ _ _ h3 _
    wout := fun d o => Spec.IsR.wn (fun i j => all_real wo _ _ _ _ h4 _) (fun i => all_real go _ _ _ _ h5 _)
      (fun i => (p9 (ix2 _ i)).trans_eq (rows_out wo _ i)) d o
    bout := fun d => all_real bo _ _ _ _ h6 _
    cbt := fun o k => all_real e _ _ _ _ h7 _ }⟩

end Cert.PreData
end
-- ==== Proof.KerLayer.lean ====
/- One layer of the kernel's body, read at an index: it is the layer of `Spec`. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KerLayer

open Idealize.ShloMosaic Idealize.ShloMosaic.TcCoe Idealize.SL.Sem
open Cert.KernelIdeal Cert.KernelIdeal.Gen

/-- A sum over two halves, added pairwise. -/
def pair (n : ℕ) (F : Fin (n + n) → EReal) : Fin n → EReal := fun i => F (Fin.castAdd n i) + F (Fin.natAdd n i)

theorem sum_pair (n : ℕ) (F : Fin (n + n) → EReal) : ∑ i, F i = ∑ i, pair n F i := by
  rw [Fin.sum_univ_add, ← Finset.sum_add_distrib]
  rfl

/-- The sum of 64 terms, by halving. -/
theorem sum_halving (F : Fin 64 → EReal) :
    ∑ i, F i = pair 1 (pair 2 (pair 4 (pair 8 (pair 16 (pair 32 F))))) 0 := by
  refine (sum_pair 32 F).trans ((sum_pair 16 _).trans ((sum_pair 8 _).trans ((sum_pair 4 _).trans ((sum_pair 2 _).trans
    ((sum_pair 1 _).trans ?_)))))
  exact Fin.sum_univ_one _

theorem ofBits_inf : Ideal.ofBits .f32 0x7F800000#32 = ⊤ := by simp [Ideal.ofBits, Ideal.ieee]

/-- The smallest value is the value of the first smallest row. -/
theorem fold_min (d : Fin 1024 → EReal) :
    Finset.fold min (Ideal.ofBits .f32 0x7F800000#32) d Finset.univ = d (Spec.amin d) := by
  apply le_antisymm
  · exact (Finset.fold_min_le _).mpr (.inr ⟨_, Finset.mem_univ _, le_rfl⟩)
  · exact (Finset.le_fold_min _).mpr ⟨by rw [ofBits_inf]; exact le_top, fun k _ => Spec.amin_le d k⟩

theorem toInt_row (a : Fin 1024) : (BitVec.ofNat 32 a.val).toInt = a.val := by
  have := a.isLt
  rw [BitVec.toInt_eq_toNat_cond, BitVec.toNat_ofNat]
  split <;> omega

theorem toInt_minsi (a b : BitVec 32) : (IntOp.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

/-- The first row whose value is at most the smallest one. -/
theorem fold_minsi (d : Fin 1024 → EReal) :
    Finset.fold IntOp.minsi (2147483647#32) (fun k : Fin 1024 =>
      if d k ≤ d (Spec.amin d) then BitVec.ofNat 32 k.val else 1024#32) Finset.univ = BitVec.ofNat 32 (Spec.amin d).val := by
  apply BitVec.eq_of_toInt_eq
  rw [← Finset.fold_hom (op' := min) (m := BitVec.toInt) toInt_minsi, toInt_row]
  have hlt := (Spec.amin d).isLt
  apply le_antisymm
  · refine (Finset.fold_min_le _).mpr (.inr ⟨Spec.amin d, Finset.mem_univ _, ?_⟩)
    rw [if_pos le_rfl, toInt_row]
  · refine (Finset.le_fold_min _).mpr ⟨?_, fun k _ => ?_⟩
    · rw [show (2147483647#32 : BitVec 32).toInt = 2147483647 from by decide]; omega
    · by_cases h : d k ≤ d (Spec.amin d)
      · rw [if_pos h, toInt_row]
        have : ¬ k < Spec.amin d := fun hk => absurd (Spec.amin_lt d k hk) (not_lt.mpr h)
        have h2 : ((Spec.amin d : Fin 1024) : ℕ) ≤ k := not_lt.mp this
        exact_mod_cast h2
      · rw [if_neg h, show (1024#32 : BitVec 32).toInt = 1024 from by decide]; omega

/-- A product with the indicator of one row picks that row. -/
theorem sum_pick (f : Fin 1024 → EReal) (a : Fin 1024) :
    ∑ k : Fin 1024, f k * FloatOps.sitofp (F := Ideal) .f32
      (BitVec.setWidth 32 (IntOp.cmpi .eq (BitVec.ofNat 32 k.val) (BitVec.ofNat 32 a.val))) = f a := by
  rw [Finset.sum_eq_single a]
  · rw [show IntOp.cmpi .eq (BitVec.ofNat 32 a.val) (BitVec.ofNat 32 a.val) = 1#1 from by simp [IntOp.cmpi]]
    show f a * ((((BitVec.setWidth 32 (1#1)).toInt : ℤ) : ℝ) : EReal) = f a
    rw [show (BitVec.setWidth 32 (1#1)).toInt = 1 from by decide]
    simp
  · intro k _ hk
    have hne : BitVec.ofNat 32 k.val ≠ BitVec.ofNat 32 a.val := by
      intro h
      have := congrArg BitVec.toInt h
      rw [toInt_row, toInt_row] at this
      exact hk (Fin.ext (by exact_mod_cast this))
    rw [show IntOp.cmpi .eq (BitVec.ofNat 32 k.val) (BitVec.ofNat 32 a.val) = 0#1 from
      by simp only [IntOp.cmpi, beq_eq_false_iff_ne.mpr hne]; rfl]
    show f k * ((((BitVec.setWidth 32 (0#1)).toInt : ℤ) : ℝ) : EReal) = 0
    rw [show (BitVec.setWidth 32 (0#1)).toInt = 0 from by decide]
    simp
  · exact fun h => absurd (Finset.mem_univ _) h

/-- The layer that the loaded tiles hold. -/
def lay (w : Vec Ideal S1x64x1024 .f32) (b : Vec Ideal S1x64x1 .f32) (wo : Vec Ideal S1x1024x64 .f32) (bo : Vec Ideal S1x1024x1 .f32)
    (cn : Vec Ideal S1x1024x64 .f32) (cb : Vec Ideal S1x64x1024 .f32) (c2 : Vec Ideal S1x1024x1 .f32) : Spec.Lay where
  win o c := w (ix3 0 o c)
  bin o := b (ix3 0 o 0)
  wout d o := wo (ix3 0 d o)
  bout d := bo (ix3 0 d 0)
  cbn k o := cn (ix3 0 k o)
  cbt o k := cb (ix3 0 o k)
  c2 k := c2 (ix3 0 k 0)

section
variable (w : Vec Ideal S1x64x1024 .f32) (b : Vec Ideal S1x64x1 .f32) (wo : Vec Ideal S1x1024x64 .f32) (bo : Vec Ideal S1x1024x1 .f32)
  (cn : Vec Ideal S1x1024x64 .f32) (cb : Vec Ideal S1x64x1024 .f32) (c2 : Vec Ideal S1x1024x1 .f32)
  (R : FVec Ideal S1024x1024 .f32)

/-- The rows' numbers. -/
abbrev rows : IVec S1024x1024 32 := iota .tc S1024x1024 32 [0] iota_S1024x1024_d0_w32

/-- The column of token `t`. -/
def col (R : FVec Ideal S1024x1024 .f32) (t : Fin 1024) : Fin 1024 → EReal := fun c => R (ix2 c t)

theorem ze_at (o : Fin 64) (t : Fin 1024) :
    k0_pay13 (F := Ideal) R w b (ix2 o t) = Spec.ze (lay w b wo bo cn cb c2) (col R t) o := by
  pointwise [k0_pay13]
  rfl

theorem score_at (k : Fin 1024) (t : Fin 1024) :
    k0_pay14 (F := Ideal) R w b cn (ix2 k t) + c2 (ix3 0 k 0) = Spec.dist (lay w b wo bo cn cb c2) (col R t) k := by
  have hz : ∀ o t, k0_pay13 (F := Ideal) R w b (ix2 o t) = Spec.ze (lay w b wo bo cn cb c2) (col R t) o :=
    fun o t => ze_at w b wo bo cn cb c2 R o t
  have hs := (sum_halving fun o => Spec.ze (lay w b wo bo cn cb c2) (col R t) o * Spec.ze (lay w b wo bo cn cb c2) (col R t) o)
  pointwise [k0_pay14, hz]
  generalize hZ : Spec.ze (lay w b wo bo cn cb c2) (col R t) = Z at *
  simp only [Spec.dist, Spec.zn, Spec.nrm, hZ, hs]
  rfl

/-- The row taken, from the distances. -/
theorem pick_at (S : FVec Ideal S1024x1024 .f32) (d : Fin 1024 → EReal) (t : Fin 1024) (h : ∀ k, S (ix2 k t) + c2 (ix3 0 k 0) = d k) :
    k0_pay15 (F := Ideal) rows S c2 (ix2 0 t) = BitVec.ofNat 32 (Spec.amin d).val := by
  pointwise [k0_pay15]
  simp only [h, fold_min]
  exact fold_minsi d

theorem idx_at (t : Fin 1024) : k0_pay15 (F := Ideal) rows (k0_pay14 R w b cn) c2 (ix2 0 t)
    = BitVec.ofNat 32 (Spec.idx (lay w b wo bo cn cb c2) (col R t)).val :=
  pick_at c2 _ _ t fun k => score_at w b wo bo cn cb c2 R k t

theorem zq_at (o : Fin 64) (t : Fin 1024) : k0_pay16 (F := Ideal) rows (k0_pay14 R w b cn) c2 cb (ix2 o t)
    = Spec.zq (lay w b wo bo cn cb c2) (col R t) o := by
  have hi := idx_at w b wo bo cn cb c2 R
  pointwise [k0_pay16]
  simp only [hi]
  exact sum_pick (fun k => cb (ix3 0 o k)) _

theorem err_at (t : Fin 1024) : k0_pay17 (F := Ideal) rows (k0_pay13 R w b) (k0_pay14 R w b cn) c2 cb (ix3 0 0 t)
    = Spec.err (lay w b wo bo cn cb c2) (col R t) := by
  have hz := ze_at w b wo bo cn cb c2 R
  have hq := zq_at w b wo bo cn cb c2 R
  pointwise [k0_pay17, hz, hq]
  rfl

theorem next_at (d t : Fin 1024) : k0_pay18 (F := Ideal) rows R (k0_pay14 R w b cn) c2 cb wo bo (ix2 d t)
    = Spec.next (lay w b wo bo cn cb c2) (col R t) d := by
  have hq := zq_at w b wo bo cn cb c2 R
  pointwise [k0_pay18, hq]
  rfl
end

end Cert.KerLayer

end
-- ==== Proof.KerBlock.lean ====
/- What one grid point of the kernel writes, read at an index: the eight layers of `Spec` over the loaded blocks. -/
module

public import proofs.«01_k».proof.Proof.KerLayer

@[expose] public section

set_option maxRecDepth 16384

noncomputable section

namespace Cert.KerBlock

open Idealize.ShloMosaic Idealize.ShloMosaic.TcCoe Idealize.SL.Sem
open Cert.KernelIdeal Cert.KernelIdeal.Gen
open Cert.KerLayer (rows)

/-- Layer `n`'s slab of a stack of eight. -/
def slab {a b : ℕ} (X : Vec Ideal (⟨3, ![8, a, b]⟩ : Shape) .f32) (n : ℕ) : Vec Ideal (⟨3, ![1, a, b]⟩ : Shape) .f32 :=
  View.ld X (Rect.unit (s := (⟨3, ![8, a, b]⟩ : Shape)) ![n % 8, 0, 0] ![1, a, b] (by
    intro d
    have := Nat.mod_lt n (show 0 < 8 by decide)
    fin_cases d
    · show n % 8 + 1 ≤ 8
      omega
    · show 0 + a ≤ a
      omega
    · show 0 + b ≤ b
      omega))

theorem slab_at {a b : ℕ} (X : Vec Ideal (⟨3, ![8, a, b]⟩ : Shape) .f32) (n : ℕ) (i : Fin a) (j : Fin b) :
    slab X n (ix3 0 i j) = X (ix3 (Fin.ofNat 8 n) i j) := by
  unfold slab
  refine congrArg X (funext fun d => Fin.ext ?_)
  fin_cases d
  · show n % 8 + 1 * 0 = n % 8
    omega
  · show 0 + 1 * (i : ℕ) = i
    omega
  · show 0 + 1 * (j : ℕ) = j
    omega

/-! ## Each layer's values in the same form

The eight layers are the same text; the printed program names their intermediate values differently. Here each layer's
residual, codes and squared errors are written with the names of the second one. -/

section
variable (R : FVec Ideal S1024x1024 .f32) (w : Vec Ideal S1x64x1024 .f32) (b : Vec Ideal S1x64x1 .f32) (wo : Vec Ideal S1x1024x64 .f32)
  (bo : Vec Ideal S1x1024x1 .f32) (cn : Vec Ideal S1x1024x64 .f32) (cb : Vec Ideal S1x64x1024 .f32) (c2 : Vec Ideal S1x1024x1 .f32)

abbrev stepL : FVec Ideal S1024x1024 .f32 := k0_pay18 (F := Ideal) rows R (k0_pay14 R w b cn) c2 cb wo bo
abbrev codeL : IVec S1x1x1024 32 := k0_pay19 (k0_pay15 (F := Ideal) rows (k0_pay14 R w b cn) c2)
abbrev partL : FVec Ideal S1x1x1024 .f32 := k0_pay17 (F := Ideal) rows (k0_pay13 R w b) (k0_pay14 R w b cn) c2 cb

theorem layer0 (z : Vec Ideal S1x1024x1024 .f32) :
    k0_pay11 (F := Ideal) (k0_pay3 z) rows (k0_pay6 z w b) (k0_pay7 z w b cn) c2 cb wo bo = stepL (k0_pay3 z) w b wo bo cn cb c2
    ∧ k0_pay12 (k0_pay8 (F := Ideal) rows (k0_pay6 z w b) (k0_pay7 z w b cn) c2) = codeL (k0_pay3 z) w b cn c2
    ∧ k0_pay10 (F := Ideal) rows (k0_pay4 z w b) (k0_pay6 z w b) (k0_pay7 z w b cn) c2 cb = partL (k0_pay3 z) w b cn cb c2 := ⟨rfl, rfl, rfl⟩

theorem layer2 :
    k0_pay25 (F := Ideal) rows R (k0_pay21 R w b cn) c2 cb wo bo = stepL R w b wo bo cn cb c2
    ∧ k0_pay26 (F := Ideal) rows (k0_pay21 R w b cn) c2 = codeL R w b cn c2
    ∧ k0_pay24 (F := Ideal) rows (k0_pay20 R w b) (k0_pay21 R w b cn) c2 cb = partL R w b cn cb c2 := ⟨rfl, rfl, rfl⟩

theorem layer3 :
    k0_pay32 (F := Ideal) rows R (k0_pay28 R w b cn) c2 cb wo bo = stepL R w b wo bo cn cb c2
    ∧ k0_pay33 (F := Ideal) rows (k0_pay28 R w b cn) c2 = codeL R w b cn c2
    ∧ k0_pay31 (F := Ideal) rows (k0_pay27 R w b) (k0_pay28 R w b cn) c2 cb = partL R w b cn cb c2 := ⟨rfl, rfl, rfl⟩

theorem layer4 :
    k0_pay40 (F := Ideal) rows R (k0_pay35 R w b cn) (k0_pay36 c2) cb wo bo = stepL R w b wo bo cn cb c2
    ∧ k0_pay41 (F := Ideal) rows (k0_pay35 R w b cn) (k0_pay36 c2) = codeL R w b cn c2
    ∧ k0_pay39 (F := Ideal) rows (k0_pay34 R w b) (k0_pay35 R w b cn) (k0_pay36 c2) cb = partL R w b cn cb c2 := ⟨rfl, rfl, rfl⟩

theorem layer5 :
    k0_pay47 (F := Ideal) rows R (k0_pay43 R w b cn c2) cb wo bo = stepL R w b wo bo cn cb c2
    ∧ k0_pay48 (F := Ideal) rows (k0_pay43 R w b cn c2) = codeL R w b cn c2
    ∧ k0_pay46 (F := Ideal) rows (k0_pay42 R w b) (k0_pay43 R w b cn c2) cb = partL R w b cn cb c2 := ⟨rfl, rfl, rfl⟩

theorem layer6 :
    k0_pay56 (F := Ideal) rows R (k0_pay51 R (k0_pay49 w) b cn c2) (k0_pay52 R (k0_pay49 w) b cn c2) cb wo bo = stepL R w b wo bo cn cb c2
    ∧ k0_pay57 (F := Ideal) rows (k0_pay51 R (k0_pay49 w) b cn c2) (k0_pay52 R (k0_pay49 w) b cn c2) = codeL R w b cn c2
    ∧ k0_pay55 (F := Ideal) rows (k0_pay50 R (k0_pay49 w) b) (k0_pay51 R (k0_pay49 w) b cn c2) (k0_pay52 R (k0_pay49 w) b cn c2) cb
        = partL R w b cn cb c2 := ⟨rfl, rfl, rfl⟩

/-- The projection without its bias. -/
def lin : FVec Ideal S64x1024 .f32 :=
  matmul dot_S64x1024_S1024x1024_S64x1024_1_0_0_1_n_n none (shapeCast S64x1024 w shapeCasts_S1x64x1024_S64x1024 : FVec Ideal S64x1024 .f32) R
    (constant S64x1024 .f32 0x00000000#32)

theorem lin_eq (S : FVec Ideal S1024x1024 .f32) (M : FVec Ideal S1x1024 .f32) (w' : Vec Ideal S1x64x1024 .f32) :
    k0_pay58 (F := Ideal) rows R S M cb wo bo w' = lin (k0_pay56 (F := Ideal) rows R S M cb wo bo) w' := rfl

theorem layer7 :
    k0_pay64 (F := Ideal) rows R (k0_pay60 (lin R w) b cn c2) cb wo bo = stepL R w b wo bo cn cb c2
    ∧ k0_pay1 (k0_pay61 rows (k0_pay60 (F := Ideal) (lin R w) b cn c2)) = codeL R w b cn c2
    ∧ k0_pay63 (F := Ideal) rows (k0_pay59 (lin R w) b) (k0_pay60 (lin R w) b cn c2) cb = partL R w b cn cb c2 := ⟨rfl, rfl, rfl⟩

end

section
variable (x0 : Vec Ideal S1x1024x1024 .f32) (x1 : Vec Ideal S8x64x1024 .f32) (x2 : Vec Ideal S8x64x1 .f32)
  (x3 : Vec Ideal S8x1024x64 .f32) (x4 : Vec Ideal S8x1024x1 .f32) (x5 : Vec Ideal S8x1024x64 .f32)
  (x6 : Vec Ideal S8x64x1024 .f32) (x7 : Vec Ideal S8x1024x1 .f32)

/-- Layer `n`. -/
def lay (n : ℕ) : Spec.Lay where
  win o c := x1 (ix3 (Fin.ofNat 8 n) o c)
  bin o := x2 (ix3 (Fin.ofNat 8 n) o 0)
  wout d o := x3 (ix3 (Fin.ofNat 8 n) d o)
  bout d := x4 (ix3 (Fin.ofNat 8 n) d 0)
  cbn k o := x5 (ix3 (Fin.ofNat 8 n) k o)
  cbt o k := x6 (ix3 (Fin.ofNat 8 n) o k)
  c2 k := x7 (ix3 (Fin.ofNat 8 n) k 0)

theorem lay_eq (n : ℕ) : KerLayer.lay (slab x1 n) (slab x2 n) (slab x3 n) (slab x4 n) (slab x5 n) (slab x6 n) (slab x7 n)
    = lay x1 x2 x3 x4 x5 x6 x7 n := by
  simp only [KerLayer.lay, lay, slab_at]

/-- The scores of layer `n` over the residual `R`. -/
abbrev score (R : FVec Ideal S1024x1024 .f32) (n : ℕ) : FVec Ideal S1024x1024 .f32 :=
  k0_pay14 (F := Ideal) R (slab x1 n) (slab x2 n) (slab x5 n)

/-- The residual after `n` layers. -/
def res : ℕ → FVec Ideal S1024x1024 .f32
  | 0 => k0_pay3 (F := Ideal) (View.ld x0 r0_0)
  | n + 1 => k0_pay18 (F := Ideal) rows (res n) (score x1 x2 x5 (res n) n) (slab x7 n) (slab x6 n) (slab x3 n) (slab x4 n)

theorem res_at (n : ℕ) (c t : Fin 1024) : res x0 x1 x2 x3 x4 x5 x6 x7 n (ix2 c t)
    = Spec.res (lay x1 x2 x3 x4 x5 x6 x7) (fun c => x0 (ix3 0 c t)) n c := by
  induction n generalizing c with
  | zero =>
    show k0_pay3 (F := Ideal) (View.ld x0 r0_0) (ix2 c t) = x0 (ix3 0 c t)
    pointwise [k0_pay3]
  | succ n ih =>
    refine (KerLayer.next_at _ _ _ _ _ _ _ _ c t).trans ?_
    rw [lay_eq]
    show Spec.next _ _ c = Spec.next _ _ c
    exact congrArg (fun x => Spec.next _ x c) (funext ih)

/-- The codes of layer `n`. -/
def code (n : ℕ) : IVec S1x1x1024 32 :=
  k0_pay19 (k0_pay15 (F := Ideal) rows (score x1 x2 x5 (res x0 x1 x2 x3 x4 x5 x6 x7 n) n) (slab x7 n))

/-- The squared errors of layer `n`. -/
def part (n : ℕ) : FVec Ideal S1x1x1024 .f32 :=
  k0_pay17 (F := Ideal) rows (k0_pay13 (F := Ideal) (res x0 x1 x2 x3 x4 x5 x6 x7 n) (slab x1 n) (slab x2 n))
    (score x1 x2 x5 (res x0 x1 x2 x3 x4 x5 x6 x7 n) n) (slab x7 n) (slab x6 n)

theorem col_res (n : ℕ) (t : Fin 1024) : KerLayer.col (res x0 x1 x2 x3 x4 x5 x6 x7 n) t
    = Spec.res (lay x1 x2 x3 x4 x5 x6 x7) (fun c => x0 (ix3 0 c t)) n :=
  funext fun c => res_at x0 x1 x2 x3 x4 x5 x6 x7 n c t

theorem code_at (n : ℕ) (t : Fin 1024) : code x0 x1 x2 x3 x4 x5 x6 x7 n (ix3 0 0 t)
    = BitVec.ofNat 32 (Spec.idx (lay x1 x2 x3 x4 x5 x6 x7 n)
        (Spec.res (lay x1 x2 x3 x4 x5 x6 x7) (fun c => x0 (ix3 0 c t)) n)).val := by
  have h := KerLayer.idx_at (slab x1 n) (slab x2 n) (slab x3 n) (slab x4 n) (slab x5 n) (slab x6 n) (slab x7 n)
    (res x0 x1 x2 x3 x4 x5 x6 x7 n) t
  rw [lay_eq, col_res] at h
  unfold code
  pointwise [k0_pay19]
  exact h

theorem part_at (n : ℕ) (t : Fin 1024) : part x0 x1 x2 x3 x4 x5 x6 x7 n (ix3 0 0 t)
    = Spec.err (lay x1 x2 x3 x4 x5 x6 x7 n) (Spec.res (lay x1 x2 x3 x4 x5 x6 x7) (fun c => x0 (ix3 0 c t)) n) := by
  refine (KerLayer.err_at (slab x1 n) (slab x2 n) (slab x3 n) (slab x4 n) (slab x5 n) (slab x6 n) (slab x7 n)
    (res x0 x1 x2 x3 x4 x5 x6 x7 n) t).trans ?_
  rw [lay_eq, col_res]

theorem inb_row (k : Fin 8) (d : Fin 3) : ![0, 7 - (k : ℕ), 0] d + S1x1x1024.size d ≤ S1x8x1024.size d := by
  fin_cases d
  · show 0 + 1 ≤ 1
    omega
  · show 7 - (k : ℕ) + 1 ≤ 8
    omega
  · show 0 + 1024 ≤ 1024
    omega

/-- Eight rows stored one by one, read at an index. -/
theorem rows_at {e : EltTy} (P : ℕ → S1x1x1024.Idx → Elt Ideal e) (i : Fin 8) (t : Fin 1024) :
    View.canon (List.ofFn fun k : Fin 8 => (⟨Rect.unit (s := S1x8x1024) ![0, 7 - (k : ℕ), 0] S1x1x1024.size (inb_row k), P (7 - (k : ℕ))⟩ :
      View.Piece (Elt Ideal) S1x8x1024 e)) (ix3 0 i t) = P i (ix3 0 0 t) := by
  have hc : ∃ k : Fin 8, ∀ d, ![0, 7 - (k : ℕ), 0] d ≤ ((ix3 0 i t : S1x8x1024.Idx) d : ℕ)
      ∧ ((ix3 0 i t : S1x8x1024.Idx) d : ℕ) < ![0, 7 - (k : ℕ), 0] d + S1x1x1024.size d := by
    refine ⟨⟨7 - i, by omega⟩, fun d => ?_⟩
    fin_cases d
    · exact ⟨le_rfl, Nat.zero_lt_one⟩
    · show 7 - (7 - (i : ℕ)) ≤ i ∧ (i : ℕ) < 7 - (7 - (i : ℕ)) + 1
      omega
    · exact ⟨Nat.zero_le _, by show (t : ℕ) < 0 + 1024; omega⟩
  refine View.canon_ofFn_unit_eq_of_forall (S := S1x8x1024) (Val := Elt Ideal) (e := e) (N := 8)
    (fun k : Fin 8 => ![0, 7 - (k : ℕ), 0]) S1x1x1024.size inb_row (fun k => P (7 - (k : ℕ))) (ix3 0 i t) (P i (ix3 0 0 t)) hc ?_
  intro k x hx
  have h1 : (i : ℕ) = 7 - (k : ℕ) + (x 1 : ℕ) := hx 1
  have h2 : (t : ℕ) = 0 + (x 2 : ℕ) := hx 2
  have h3 : (x 1 : ℕ) < 1 := (x 1).isLt
  have h4 : (x 0 : ℕ) < 1 := (x 0).isLt
  have hk : 7 - (k : ℕ) = i := by omega
  show P (7 - (k : ℕ)) x = P i (ix3 0 0 t)
  rw [hk]
  refine congrArg (P i) (funext fun d => Fin.ext ?_)
  fin_cases d
  · show (x 0 : ℕ) = 0
    omega
  · show (x 1 : ℕ) = 0
    omega
  · show (x 2 : ℕ) = t
    omega

/-! ## The residuals under their printed names -/

theorem res1 : k0_pay69 (F := Ideal) x0 x1 x2 x3 x4 x5 x6 x7 = res x0 x1 x2 x3 x4 x5 x6 x7 1 :=
  (layer0 (slab x1 0) (slab x2 0) (slab x3 0) (slab x4 0) (slab x5 0) (slab x6 0) (slab x7 0) (View.ld x0 r0_0)).1

theorem res2 : k0_pay71 (F := Ideal) x0 x1 x2 x3 x4 x5 x6 x7 = res x0 x1 x2 x3 x4 x5 x6 x7 2 := by
  unfold k0_pay71 k0_pay70
  rw [res1]
  rfl

theorem res3 : k0_pay73 (F := Ideal) x0 x1 x2 x3 x4 x5 x6 x7 = res x0 x1 x2 x3 x4 x5 x6 x7 3 := by
  unfold k0_pay73 k0_pay72
  rw [res2]
  exact (layer2 (res x0 x1 x2 x3 x4 x5 x6 x7 2) (slab x1 2) (slab x2 2) (slab x3 2) (slab x4 2) (slab x5 2) (slab x6 2) (slab x7 2)).1

theorem res4 : k0_pay75 (F := Ideal) x0 x1 x2 x3 x4 x5 x6 x7 = res x0 x1 x2 x3 x4 x5 x6 x7 4 := by
  unfold k0_pay75 k0_pay74
  rw [res3]
  exact (layer3 (res x0 x1 x2 x3 x4 x5 x6 x7 3) (slab x1 3) (slab x2 3) (slab x3 3) (slab x4 3) (slab x5 3) (slab x6 3) (slab x7 3)).1

theorem res5 : k0_pay78 (F := Ideal) x0 x1 x2 x3 x4 x5 x6 x7 = res x0 x1 x2 x3 x4 x5 x6 x7 5 := by
  unfold k0_pay78 k0_pay77 k0_pay76
  rw [res4]
  exact (layer4 (res x0 x1 x2 x3 x4 x5 x6 x7 4) (slab x1 4) (slab x2 4) (slab x3 4) (slab x4 4) (slab x5 4) (slab x6 4) (slab x7 4)).1

theorem res6 : k0_pay80 (F := Ideal) x0 x1 x2 x3 x4 x5 x6 x7 = res x0 x1 x2 x3 x4 x5 x6 x7 6 := by
  unfold k0_pay80 k0_pay79
  rw [res5]
  exact (layer5 (res x0 x1 x2 x3 x4 x5 x6 x7 5) (slab x1 5) (slab x2 5) (slab x3 5) (slab x4 5) (slab x5 5) (slab x6 5) (slab x7 5)).1

theorem res7 : k0_pay56 (F := Ideal) (k0_pay65 x0 x1 x2 x3 x4 x5 x6 x7) (k0_pay80 x0 x1 x2 x3 x4 x5 x6 x7) (k0_pay82 x0 x1 x2 x3 x4 x5 x6 x7) (k0_pay83 x0 x1 x2 x3 x4 x5 x6 x7) (View.ld x6 r0_31) (View.ld x3 r0_33)
    (View.ld x4 r0_34) = res x0 x1 x2 x3 x4 x5 x6 x7 7 := by
  unfold k0_pay83 k0_pay82 k0_pay81
  rw [res6]
  exact (layer6 (res x0 x1 x2 x3 x4 x5 x6 x7 6) (slab x1 6) (slab x2 6) (slab x3 6) (slab x4 6) (slab x5 6) (slab x6 6) (slab x7 6)).1

theorem lin7 : k0_pay84 (F := Ideal) x0 x1 x2 x3 x4 x5 x6 x7 = lin (res x0 x1 x2 x3 x4 x5 x6 x7 7) (slab x1 7) :=
  (lin_eq _ _ _ _ _ _ _).trans (congrArg (fun r => lin r (slab x1 7)) (res7 x0 x1 x2 x3 x4 x5 x6 x7))

theorem res8 : k0_pay64 (F := Ideal) (k0_pay65 x0 x1 x2 x3 x4 x5 x6 x7) (k0_pay56 (F := Ideal) (k0_pay65 x0 x1 x2 x3 x4 x5 x6 x7) (k0_pay80 x0 x1 x2 x3 x4 x5 x6 x7) (k0_pay82 x0 x1 x2 x3 x4 x5 x6 x7) (k0_pay83 x0 x1 x2 x3 x4 x5 x6 x7)
      (View.ld x6 r0_31) (View.ld x3 r0_33) (View.ld x4 r0_34)) (k0_pay85 x0 x1 x2 x3 x4 x5 x6 x7) (View.ld x6 r0_36) (View.ld x3 r0_38) (View.ld x4 r0_39)
    = res x0 x1 x2 x3 x4 x5 x6 x7 8 := by
  unfold k0_pay85
  rw [res7, lin7]
  exact (layer7 (res x0 x1 x2 x3 x4 x5 x6 x7 7) (slab x1 7) (slab x2 7) (slab x3 7) (slab x4 7) (slab x5 7) (slab x6 7) (slab x7 7)).1

/-! ## The stored rows -/

theorem out8_eq : out0_8 (F := Ideal) x0 x1 x2 x3 x4 x5 x6 x7 = View.canon (List.ofFn fun k : Fin 8 =>
    (⟨Rect.unit (s := S1x8x1024) ![0, 7 - (k : ℕ), 0] S1x1x1024.size (inb_row k), code x0 x1 x2 x3 x4 x5 x6 x7 (7 - (k : ℕ))⟩ :
      View.Piece (Elt Ideal) S1x8x1024 .i32)) := by
  unfold out0_8
  have h0 : k0_pay12 (k0_pay8 (F := Ideal) (k0_pay65 x0 x1 x2 x3 x4 x5 x6 x7) (k0_pay67 x0 x1 x2 x3 x4 x5 x6 x7) (k0_pay68 x0 x1 x2 x3 x4 x5 x6 x7) (View.ld x7 r0_4)) = code x0 x1 x2 x3 x4 x5 x6 x7 0 :=
    (layer0 (slab x1 0) (slab x2 0) (slab x3 0) (slab x4 0) (slab x5 0) (slab x6 0) (slab x7 0) (View.ld x0 r0_0)).2.1
  have h1 : k0_pay19 (k0_pay15 (F := Ideal) (k0_pay65 x0 x1 x2 x3 x4 x5 x6 x7) (k0_pay70 x0 x1 x2 x3 x4 x5 x6 x7) (View.ld x7 r0_9)) = code x0 x1 x2 x3 x4 x5 x6 x7 1 := by
    unfold k0_pay70
    rw [res1]
    rfl
  have h2 : k0_pay26 (F := Ideal) (k0_pay65 x0 x1 x2 x3 x4 x5 x6 x7) (k0_pay72 x0 x1 x2 x3 x4 x5 x6 x7) (View.ld x7 r0_14) = code x0 x1 x2 x3 x4 x5 x6 x7 2 := by
    unfold k0_pay72
    rw [res2]
    exact (layer2 (res x0 x1 x2 x3 x4 x5 x6 x7 2) (slab x1 2) (slab x2 2) (slab x3 2) (slab x4 2) (slab x5 2) (slab x6 2) (slab x7 2)).2.1
  have h3 : k0_pay33 (F := Ideal) (k0_pay65 x0 x1 x2 x3 x4 x5 x6 x7) (k0_pay74 x0 x1 x2 x3 x4 x5 x6 x7) (View.ld x7 r0_19) = code x0 x1 x2 x3 x4 x5 x6 x7 3 := by
    unfold k0_pay74
    rw [res3]
    exact (layer3 (res x0 x1 x2 x3 x4 x5 x6 x7 3) (slab x1 3) (slab x2 3) (slab x3 3) (slab x4 3) (slab x5 3) (slab x6 3) (slab x7 3)).2.1
  have h4 : k0_pay41 (F := Ideal) (k0_pay65 x0 x1 x2 x3 x4 x5 x6 x7) (k0_pay76 x0 x1 x2 x3 x4 x5 x6 x7) (k0_pay77 x0 x1 x2 x3 x4 x5 x6 x7) = code x0 x1 x2 x3 x4 x5 x6 x7 4 := by
    unfold k0_pay77 k0_pay76
    rw [res4]
    exact (layer4 (res x0 x1 x2 x3 x4 x5 x6 x7 4) (slab x1 4) (slab x2 4) (slab x3 4) (slab x4 4) (slab x5 4) (slab x6 4) (slab x7 4)).2.1
  have h5 : k0_pay48 (F := Ideal) (k0_pay65 x0 x1 x2 x3 x4 x5 x6 x7) (k0_pay79 x0 x1 x2 x3 x4 x5 x6 x7) = code x0 x1 x2 x3 x4 x5 x6 x7 5 := by
    unfold k0_pay79
    rw [res5]
    exact (layer5 (res x0 x1 x2 x3 x4 x5 x6 x7 5) (slab x1 5) (slab x2 5) (slab x3 5) (slab x4 5) (slab x5 5) (slab x6 5) (slab x7 5)).2.1
  have h6 : k0_pay57 (F := Ideal) (k0_pay65 x0 x1 x2 x3 x4 x5 x6 x7) (k0_pay82 x0 x1 x2 x3 x4 x5 x6 x7) (k0_pay83 x0 x1 x2 x3 x4 x5 x6 x7) = code x0 x1 x2 x3 x4 x5 x6 x7 6 := by
    unfold k0_pay83 k0_pay82 k0_pay81
    rw [res6]
    exact (layer6 (res x0 x1 x2 x3 x4 x5 x6 x7 6) (slab x1 6) (slab x2 6) (slab x3 6) (slab x4 6) (slab x5 6) (slab x6 6) (slab x7 6)).2.1
  have h7 : k0_pay1 (k0_pay61 (k0_pay65 (F := Ideal) x0 x1 x2 x3 x4 x5 x6 x7) (k0_pay85 x0 x1 x2 x3 x4 x5 x6 x7)) = code x0 x1 x2 x3 x4 x5 x6 x7 7 := by
    unfold k0_pay85
    rw [lin7]
    exact (layer7 (res x0 x1 x2 x3 x4 x5 x6 x7 7) (slab x1 7) (slab x2 7) (slab x3 7) (slab x4 7) (slab x5 7) (slab x6 7) (slab x7 7)).2.1
  rw [h0, h1, h2, h3, h4, h5, h6, h7]
  rfl

theorem out10_eq : out0_10 (F := Ideal) x0 x1 x2 x3 x4 x5 x6 x7 = View.canon (List.ofFn fun k : Fin 8 =>
    (⟨Rect.unit (s := S1x8x1024) ![0, 7 - (k : ℕ), 0] S1x1x1024.size (inb_row k), part x0 x1 x2 x3 x4 x5 x6 x7 (7 - (k : ℕ))⟩ :
      View.Piece (Elt Ideal) S1x8x1024 .f32)) := by
  unfold out0_10
  have h0 : k0_pay10 (F := Ideal) (k0_pay65 x0 x1 x2 x3 x4 x5 x6 x7) (k0_pay4 (View.ld x0 r0_0) (View.ld x1 r0_1) (View.ld x2 r0_2)) (k0_pay67 x0 x1 x2 x3 x4 x5 x6 x7) (k0_pay68 x0 x1 x2 x3 x4 x5 x6 x7) (View.ld x7 r0_4) (View.ld x6 r0_1) = part x0 x1 x2 x3 x4 x5 x6 x7 0 :=
    (layer0 (slab x1 0) (slab x2 0) (slab x3 0) (slab x4 0) (slab x5 0) (slab x6 0) (slab x7 0) (View.ld x0 r0_0)).2.2
  have h1 : k0_pay17 (F := Ideal) (k0_pay65 x0 x1 x2 x3 x4 x5 x6 x7) (k0_pay13 (k0_pay69 x0 x1 x2 x3 x4 x5 x6 x7) (View.ld x1 r0_6) (View.ld x2 r0_7)) (k0_pay70 x0 x1 x2 x3 x4 x5 x6 x7) (View.ld x7 r0_9) (View.ld x6 r0_6) = part x0 x1 x2 x3 x4 x5 x6 x7 1 := by
    unfold k0_pay70
    rw [res1]
    rfl
  have h2 : k0_pay24 (F := Ideal) (k0_pay65 x0 x1 x2 x3 x4 x5 x6 x7) (k0_pay20 (k0_pay71 x0 x1 x2 x3 x4 x5 x6 x7) (View.ld x1 r0_11) (View.ld x2 r0_12)) (k0_pay72 x0 x1 x2 x3 x4 x5 x6 x7) (View.ld x7 r0_14) (View.ld x6 r0_11) = part x0 x1 x2 x3 x4 x5 x6 x7 2 := by
    unfold k0_pay72
    rw [res2]
    exact (layer2 (res x0 x1 x2 x3 x4 x5 x6 x7 2) (slab x1 2) (slab x2 2) (slab x3 2) (slab x4 2) (slab x5 2) (slab x6 2) (slab x7 2)).2.2
  have h3 : k0_pay31 (F := Ideal) (k0_pay65 x0 x1 x2 x3 x4 x5 x6 x7) (k0_pay27 (k0_pay73 x0 x1 x2 x3 x4 x5 x6 x7) (View.ld x1 r0_16) (View.ld x2 r0_17)) (k0_pay74 x0 x1 x2 x3 x4 x5 x6 x7) (View.ld x7 r0_19) (View.ld x6 r0_16) = part x0 x1 x2 x3 x4 x5 x6 x7 3 := by
    unfold k0_pay74
    rw [res3]
    exact (layer3 (res x0 x1 x2 x3 x4 x5 x6 x7 3) (slab x1 3) (slab x2 3) (slab x3 3) (slab x4 3) (slab x5 3) (slab x6 3) (slab x7 3)).2.2
  have h4 : k0_pay39 (F := Ideal) (k0_pay65 x0 x1 x2 x3 x4 x5 x6 x7) (k0_pay34 (k0_pay75 x0 x1 x2 x3 x4 x5 x6 x7) (View.ld x1 r0_21) (View.ld x2 r0_22)) (k0_pay76 x0 x1 x2 x3 x4 x5 x6 x7) (k0_pay77 x0 x1 x2 x3 x4 x5 x6 x7) (View.ld x6 r0_21) = part x0 x1 x2 x3 x4 x5 x6 x7 4 := by
    unfold k0_pay77 k0_pay76
    rw [res4]
    exact (layer4 (res x0 x1 x2 x3 x4 x5 x6 x7 4) (slab x1 4) (slab x2 4) (slab x3 4) (slab x4 4) (slab x5 4) (slab x6 4) (slab x7 4)).2.2
  have h5 : k0_pay46 (F := Ideal) (k0_pay65 x0 x1 x2 x3 x4 x5 x6 x7) (k0_pay42 (k0_pay78 x0 x1 x2 x3 x4 x5 x6 x7) (View.ld x1 r0_26) (View.ld x2 r0_27)) (k0_pay79 x0 x1 x2 x3 x4 x5 x6 x7) (View.ld x6 r0_26) = part x0 x1 x2 x3 x4 x5 x6 x7 5 := by
    unfold k0_pay79
    rw [res5]
    exact (layer5 (res x0 x1 x2 x3 x4 x5 x6 x7 5) (slab x1 5) (slab x2 5) (slab x3 5) (slab x4 5) (slab x5 5) (slab x6 5) (slab x7 5)).2.2
  have h6 : k0_pay55 (F := Ideal) (k0_pay65 x0 x1 x2 x3 x4 x5 x6 x7) (k0_pay50 (k0_pay80 x0 x1 x2 x3 x4 x5 x6 x7) (k0_pay81 x0 x1 x2 x3 x4 x5 x6 x7) (View.ld x2 r0_32)) (k0_pay82 x0 x1 x2 x3 x4 x5 x6 x7) (k0_pay83 x0 x1 x2 x3 x4 x5 x6 x7) (View.ld x6 r0_31) = part x0 x1 x2 x3 x4 x5 x6 x7 6 := by
    unfold k0_pay83 k0_pay82 k0_pay81
    rw [res6]
    exact (layer6 (res x0 x1 x2 x3 x4 x5 x6 x7 6) (slab x1 6) (slab x2 6) (slab x3 6) (slab x4 6) (slab x5 6) (slab x6 6) (slab x7 6)).2.2
  have h7 : k0_pay63 (F := Ideal) (k0_pay65 x0 x1 x2 x3 x4 x5 x6 x7) (k0_pay59 (k0_pay84 x0 x1 x2 x3 x4 x5 x6 x7) (View.ld x2 r0_37)) (k0_pay85 x0 x1 x2 x3 x4 x5 x6 x7) (View.ld x6 r0_36) = part x0 x1 x2 x3 x4 x5 x6 x7 7 := by
    unfold k0_pay85
    rw [lin7]
    exact (layer7 (res x0 x1 x2 x3 x4 x5 x6 x7 7) (slab x1 7) (slab x2 7) (slab x3 7) (slab x4 7) (slab x5 7) (slab x6 7) (slab x7 7)).2.2
  rw [h0, h1, h2, h3, h4, h5, h6, h7]
  rfl

theorem out9_eq : out0_9 (F := Ideal) x0 x1 x2 x3 x4 x5 x6 x7
    = View.canon [⟨r0_0, k0_pay2 (F := Ideal) (k0_pay3 (F := Ideal) (View.ld x0 r0_0)) (res x0 x1 x2 x3 x4 x5 x6 x7 8)⟩] := by
  unfold out0_9
  rw [res8]
  rfl

theorem out8_at (i : Fin 8) (t : Fin 1024) : out0_8 (F := Ideal) x0 x1 x2 x3 x4 x5 x6 x7 (ix3 0 i t)
    = BitVec.ofNat 32 (Spec.idx (lay x1 x2 x3 x4 x5 x6 x7 i)
        (Spec.res (lay x1 x2 x3 x4 x5 x6 x7) (fun c => x0 (ix3 0 c t)) i)).val := by
  rw [out8_eq]
  exact (rows_at (e := .i32) (code x0 x1 x2 x3 x4 x5 x6 x7) i t).trans (code_at x0 x1 x2 x3 x4 x5 x6 x7 i t)

theorem out10_at (i : Fin 8) (t : Fin 1024) : out0_10 (F := Ideal) x0 x1 x2 x3 x4 x5 x6 x7 (ix3 0 i t)
    = Spec.err (lay x1 x2 x3 x4 x5 x6 x7 i) (Spec.res (lay x1 x2 x3 x4 x5 x6 x7) (fun c => x0 (ix3 0 c t)) i) := by
  rw [out10_eq]
  exact (rows_at (e := .f32) (part x0 x1 x2 x3 x4 x5 x6 x7) i t).trans (part_at x0 x1 x2 x3 x4 x5 x6 x7 i t)

theorem out9_at (c t : Fin 1024) : out0_9 (F := Ideal) x0 x1 x2 x3 x4 x5 x6 x7 (ix3 0 c t)
    = x0 (ix3 0 c t) - Spec.res (lay x1 x2 x3 x4 x5 x6 x7) (fun c => x0 (ix3 0 c t)) 8 c := by
  have h := res_at x0 x1 x2 x3 x4 x5 x6 x7 8 c t
  rw [out9_eq, ← h]
  generalize res x0 x1 x2 x3 x4 x5 x6 x7 8 = R
  frame_out
  pointwise [k0_pay2, k0_pay3]
end

end Cert.KerBlock

end
-- ==== Proof.KerValue.lean ====
/- The arrays the kernel's grid leaves, over the arrays it is launched on. -/
module

public import proofs.«01_k».proof.Proof.KerBlock

@[expose] public section

set_option maxRecDepth 16384

noncomputable section

namespace Cert.KerValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, win0_0.index t = ![t.val, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![t.val, 0, 0] ∧ win0_9.index t = ![t.val, 0, 0]
    ∧ win0_10.index t = ![t.val, 0, 0] :=
  (by decide +kernel : ∀ t : Fin grid0.N, _)

theorem blk1 (c : Dev nD) (t : Fin cfg0.N) : iblk m c 1 t = V m c main_v320 := by
  funext x
  unfold iblk
  show V m c main_v320 _ = V m c main_v320 _
  generalize V m c main_v320 = X
  refine congrArg X ?_
  blk_ext [idx t]
theorem blk2 (c : Dev nD) (t : Fin cfg0.N) : iblk m c 2 t = V m c main_v349 := by blk_ext! [iblk, idx t]
theorem blk3 (c : Dev nD) (t : Fin cfg0.N) : iblk m c 3 t = V m c main_v329 := by
  funext x
  unfold iblk
  show V m c main_v329 _ = V m c main_v329 _
  generalize V m c main_v329 = X
  refine congrArg X ?_
  blk_ext [idx t]
theorem blk4 (c : Dev nD) (t : Fin cfg0.N) : iblk m c 4 t = V m c main_v350 := by blk_ext! [iblk, idx t]
theorem blk5 (c : Dev nD) (t : Fin cfg0.N) : iblk m c 5 t = V m c main_v338 := by blk_ext! [iblk, idx t]
theorem blk6 (c : Dev nD) (t : Fin cfg0.N) : iblk m c 6 t = V m c main_v348 := by blk_ext! [iblk, idx t]
theorem blk7 (c : Dev nD) (t : Fin cfg0.N) : iblk m c 7 t = V m c main_v347 := by blk_ext! [iblk, idx t]

/-- The layers, over the arrays the grid is launched on. -/
def lay (c : Dev nD) : ℕ → Spec.Lay :=
  KerBlock.lay (V m c main_v320) (V m c main_v349) (V m c main_v329) (V m c main_v350) (V m c main_v338) (V m c main_v348)
    (V m c main_v347)

/-- The column of token `t` of batch `b`. -/
def zcol (z : FVec Ideal S16x1024x1024 .f32) (b : Fin 16) (t : Fin 1024) : Fin 1024 → EReal := fun d => z (ix3 b d t)

theorem blk0 (c : Dev nD) (t : Fin cfg0.N) (d k : Fin 1024) (b : Fin 16) (hb : b.val = t.val) :
    (show FVec Ideal S1x1024x1024 .f32 from iblk m c 0 t) (ix3 0 d k) = m ((c : Thread nD τ).loc main_arg0) (ix3 b d k) := by
  blk_ext [iblk, V, idx t]

/-- The codes. -/
def codes (c : Dev nD) (i : S16x8x1024.Idx) : BitVec 32 :=
  BitVec.ofNat 32 (Spec.idx (lay m c (i 1).val)
    (Spec.res (lay m c) (zcol (m ((c : Thread nD τ).loc main_arg0)) (i 0) (i 2)) (i 1).val)).val

/-- The squared errors, layer by layer and token by token. -/
def parts (c : Dev nD) (i : S16x8x1024.Idx) : EReal :=
  Spec.err (lay m c (i 1).val) (Spec.res (lay m c) (zcol (m ((c : Thread nD τ).loc main_arg0)) (i 0) (i 2)) (i 1).val)

/-- The sum of the layers' outputs. -/
def latent (c : Dev nD) (i : S16x1024x1024.Idx) : EReal :=
  (show FVec Ideal S16x1024x1024 .f32 from m ((c : Thread nD τ).loc main_arg0)) i
    - Spec.res (lay m c) (zcol (m ((c : Thread nD τ).loc main_arg0)) (i 0) (i 2)) 8 (i 1)

theorem col_eq (c : Dev nD) (t : Fin cfg0.N) (k k' : Fin 1024) (b : Fin 16) (hb : (b : ℕ) = t) (hk : (k' : ℕ) = k) :
    (fun d : Fin 1024 => (show FVec Ideal S1x1024x1024 .f32 from iblk m c 0 t) (ix3 0 d k))
      = zcol (m ((c : Thread nD τ).loc main_arg0)) b k' := by
  obtain rfl : k' = k := Fin.ext hk
  exact funext fun d => blk0 m c t d k' b hb

theorem point8 (c : Dev nD) (t : Fin cfg0.N) (y : S1x8x1024.Idx) (j : S16x8x1024.Idx) (h0 : (j 0 : ℕ) = t) (h1 : (j 1 : ℕ) = y 1)
    (h2 : (j 2 : ℕ) = y 2) : out0_8 (F := Ideal) (iblk m c 0 t) (iblk m c 1 t) (iblk m c 2 t) (iblk m c 3 t) (iblk m c 4 t) (iblk m c 5 t)
      (iblk m c 6 t) (iblk m c 7 t) y = codes m c j := by
  idx_vars y
  obtain rfl : y0 = 0 := Subsingleton.elim _ _
  rw [blk1, blk2, blk3, blk4, blk5, blk6, blk7]
  refine (KerBlock.out8_at (iblk m c 0 t) _ _ _ _ _ _ _ y1 y2).trans ?_
  unfold codes
  rw [h1, ← col_eq m c t y2 (j 2) (j 0) h0 h2]
  rfl

theorem point10 (c : Dev nD) (t : Fin cfg0.N) (y : S1x8x1024.Idx) (j : S16x8x1024.Idx) (h0 : (j 0 : ℕ) = t) (h1 : (j 1 : ℕ) = y 1)
    (h2 : (j 2 : ℕ) = y 2) : out0_10 (F := Ideal) (iblk m c 0 t) (iblk m c 1 t) (iblk m c 2 t) (iblk m c 3 t) (iblk m c 4 t) (iblk m c 5 t)
      (iblk m c 6 t) (iblk m c 7 t) y = parts m c j := by
  idx_vars y
  obtain rfl : y0 = 0 := Subsingleton.elim _ _
  rw [blk1, blk2, blk3, blk4, blk5, blk6, blk7]
  refine (KerBlock.out10_at (iblk m c 0 t) _ _ _ _ _ _ _ y1 y2).trans ?_
  unfold parts
  rw [h1, ← col_eq m c t y2 (j 2) (j 0) h0 h2]
  rfl

theorem point9 (c : Dev nD) (t : Fin cfg0.N) (y : S1x1024x1024.Idx) (j : S16x1024x1024.Idx) (h0 : (j 0 : ℕ) = t) (h1 : (j 1 : ℕ) = y 1)
    (h2 : (j 2 : ℕ) = y 2) : out0_9 (F := Ideal) (iblk m c 0 t) (iblk m c 1 t) (iblk m c 2 t) (iblk m c 3 t) (iblk m c 4 t) (iblk m c 5 t)
      (iblk m c 6 t) (iblk m c 7 t) y = latent m c j := by
  idx_vars y
  idx_vars j
  obtain rfl : y0 = 0 := Subsingleton.elim _ _
  obtain rfl : j1 = y1 := Fin.ext h1
  obtain rfl : j2 = y2 := Fin.ext h2
  rw [blk1, blk2, blk3, blk4, blk5, blk6, blk7]
  refine (KerBlock.out9_at (iblk m c 0 t) _ _ _ _ _ _ _ j1 j2).trans ?_
  have h := col_eq m c t j2 j2 j0 h0 rfl
  show _ = zcol (m ((c : Thread nD τ).loc main_arg0)) j0 j2 j1 - Spec.res (lay m c) (zcol (m ((c : Thread nD τ).loc main_arg0)) j0 j2) 8 j1
  rw [← h]
  rfl

theorem final8 (c : Dev nD) : (dats m 0 c).arrAt 8 (cfgs 0).N = codes m c := by
  refine (dats m 0 c).arrAt_eq_of_covers 8 _ (by decide +kernel) fun t _ y => ?_
  blk_simp
  rw [after0_8]
  refine point8 m c t y _ ?_ ?_ ?_
  all_goals (blk_simp [idx t] <;> try omega)

theorem final9 (c : Dev nD) : (dats m 0 c).arrAt 9 (cfgs 0).N = latent m c := by
  refine (dats m 0 c).arrAt_eq_of_covers 9 _ (by decide +kernel) fun t _ y => ?_
  blk_simp
  rw [after0_9]
  refine point9 m c t y _ ?_ ?_ ?_
  all_goals (blk_simp [idx t] <;> try omega)

theorem final10 (c : Dev nD) : (dats m 0 c).arrAt 10 (cfgs 0).N = parts m c := by
  refine (dats m 0 c).arrAt_eq_of_covers 10 _ (by decide +kernel) fun t _ y => ?_
  blk_simp
  rw [after0_10]
  refine point10 m c t y _ ?_ ?_ ?_
  all_goals (blk_simp [idx t] <;> try omega)

end Cert.KerValue

end
-- ==== Proof.KerHost.lean ====
/- What the kernel's host prefix launches the grid on, over the arguments. -/
module

public import proofs.«01_k».proof.Proof.KerValue
public import proofs.«01_k».proof.Proof.Layers
public import Idealize.ShloMosaic.Lib.StableHlo.RunRead

@[expose] public section

set_option maxRecDepth 16384

noncomputable section

namespace Cert.KerHost

open Idealize.ShloMosaic Idealize.ShloMosaic.TcCoe Idealize.SL.Sem
open Cert.KernelIdeal Cert.KernelIdeal.Gen

variable (m : (ℓ : Loc nD τ sig) → Buf (Elt Ideal) ℓ)

/-- One layer of a stack of matrices. -/
def pick {a b : ℕ} (A : FVec Ideal (⟨3, ![8, a, b]⟩ : Shape) .f32) (k : ℕ) : FVec Ideal (⟨3, ![1, a, b]⟩ : Shape) .f32 :=
  fun i => A (ix3 (Fin.ofNat 8 k) (i 1) (i 2))
/-- One layer of a stack of vectors. -/
def pick₂ {a : ℕ} (A : FVec Ideal (⟨2, ![8, a]⟩ : Shape) .f32) (k : ℕ) : FVec Ideal (⟨2, ![1, a]⟩ : Shape) .f32 :=
  fun i => A (ix2 (Fin.ofNat 8 k) (i 1))

theorem slice_eq {a b : ℕ} (A : FVec Ideal (⟨3, ![8, a, b]⟩ : Shape) .f32) (k : ℕ)
    (h : Shape.Slices (⟨3, ![8, a, b]⟩ : Shape) ![k, 0, 0] (⟨3, ![1, a, b]⟩ : Shape)) :
    extractStridedSlice (⟨3, ![1, a, b]⟩ : Shape) ![k, 0, 0] A h = pick A k := by
  obtain ⟨_, h'⟩ := id h
  have hk : k + 1 ≤ 8 := h' 0
  funext i
  unfold pick
  rw [extractStridedSlice]
  refine congrArg A (funext fun d => Fin.ext ?_)
  fin_cases d
  · have hi := (i 0).isLt
    change (i 0).val < 1 at hi
    show k + (i 0).val = k % 8
    omega
  · exact Nat.zero_add _
  · exact Nat.zero_add _
theorem slice₂_eq {a : ℕ} (A : FVec Ideal (⟨2, ![8, a]⟩ : Shape) .f32) (k : ℕ)
    (h : Shape.Slices (⟨2, ![8, a]⟩ : Shape) ![k, 0] (⟨2, ![1, a]⟩ : Shape)) :
    extractStridedSlice (⟨2, ![1, a]⟩ : Shape) ![k, 0] A h = pick₂ A k := by
  obtain ⟨_, h'⟩ := id h
  have hk : k + 1 ≤ 8 := h' 0
  funext i
  unfold pick₂
  rw [extractStridedSlice]
  refine congrArg A (funext fun d => Fin.ext ?_)
  fin_cases d
  · have hi := (i 0).isLt
    change (i 0).val < 1 at hi
    show k + (i 0).val = k % 8
    omega
  · exact Nat.zero_add _

/-- Eight layers stacked, read at an index. -/
theorem cat_at {a b : ℕ} (f : ℕ → FVec Ideal (⟨3, ![1, a, b]⟩ : Shape) .f32) (h) (k : Fin 8) (i : Fin a) (j : Fin b) :
    concatenate (⟨3, ![8, a, b]⟩ : Shape) 0 [⟨_, f 0⟩, ⟨_, f 1⟩, ⟨_, f 2⟩, ⟨_, f 3⟩, ⟨_, f 4⟩, ⟨_, f 5⟩, ⟨_, f 6⟩, ⟨_, f 7⟩] h
      (ix3 k i j) = f k (ix3 0 i j) := by
  refine concatenate_ofFn_unit_apply (t := (⟨3, ![8, a, b]⟩ : Shape)) (s₁ := (⟨3, ![1, a, b]⟩ : Shape)) (0 : Fin 3) (N := 8)
    (fun n => f n) h rfl rfl (ix3 k i j) k rfl (ix3 0 i j) fun d hd => ?_
  fin_cases d
  · exact absurd rfl hd
  · rfl
  · rfl

theorem cat_congr {a b : ℕ} {p0 p1 p2 p3 p4 p5 p6 p7 q0 q1 q2 q3 q4 q5 q6 q7 : FVec Ideal (⟨3, ![1, a, b]⟩ : Shape) .f32} (h)
    (e0 : p0 = q0) (e1 : p1 = q1) (e2 : p2 = q2) (e3 : p3 = q3) (e4 : p4 = q4) (e5 : p5 = q5) (e6 : p6 = q6) (e7 : p7 = q7) :
    concatenate (⟨3, ![8, a, b]⟩ : Shape) 0 [⟨_, p0⟩, ⟨_, p1⟩, ⟨_, p2⟩, ⟨_, p3⟩, ⟨_, p4⟩, ⟨_, p5⟩, ⟨_, p6⟩, ⟨_, p7⟩] h
      = concatenate (⟨3, ![8, a, b]⟩ : Shape) 0 [⟨_, q0⟩, ⟨_, q1⟩, ⟨_, q2⟩, ⟨_, q3⟩, ⟨_, q4⟩, ⟨_, q5⟩, ⟨_, q6⟩, ⟨_, q7⟩] h := by
  rw [e0, e1, e2, e3, e4, e5, e6, e7]

/-- One layer's input weights. -/
def winB (v : FVec Ideal S1x64x1024 .f32) (g : FVec Ideal S1x64 .f32) : FVec Ideal S1x64x1024 .f32 :=
  broadcastInDim S1x64x1024 ![1, 2] bcast_S64x1024_S1x64x1024_1_2 (Host.divf
    (mulf (broadcastInDim S64x1024 ![0, 1] bcast_S64x1_S64x1024_0_1 (broadcastInDim S64x1 ![0] bcast_S64_S64x1_0
      (shapeCast S64 g shapeCasts_S1x64_S64))) (shapeCast S64x1024 v shapeCasts_S1x64x1024_S64x1024))
    (broadcastInDim S64x1024 ![0, 1] bcast_S64x1_S64x1024_0_1 (Host.sqrt (broadcastInDim S64x1 ![0] bcast_S64_S64x1_0
      (Host.reduceAdd (mulf (shapeCast S64x1024 v shapeCasts_S1x64x1024_S64x1024)
        (shapeCast S64x1024 v shapeCasts_S1x64x1024_S64x1024)) (constant S_ .f32 0#32) reducesTo_S64x1024_S64_d1 h_S_)))))

/-- One layer's output weights. -/
def woutB (v : FVec Ideal S1x1024x64 .f32) (g : FVec Ideal S1x1024 .f32) : FVec Ideal S1x1024x64 .f32 :=
  broadcastInDim S1x1024x64 ![1, 2] bcast_S1024x64_S1x1024x64_1_2 (Host.divf
    (mulf (broadcastInDim S1024x64 ![0, 1] bcast_S1024x1_S1024x64_0_1 (broadcastInDim S1024x1 ![0] bcast_S1024_S1024x1_0
      (shapeCast S1024 g shapeCasts_S1x1024_S1024))) (shapeCast S1024x64 v shapeCasts_S1x1024x64_S1024x64))
    (broadcastInDim S1024x64 ![0, 1] bcast_S1024x1_S1024x64_0_1 (Host.sqrt (broadcastInDim S1024x1 ![0] bcast_S1024_S1024x1_0
      (Host.reduceAdd (mulf (shapeCast S1024x64 v shapeCasts_S1x1024x64_S1024x64)
        (shapeCast S1024x64 v shapeCasts_S1x1024x64_S1024x64)) (constant S_ .f32 0#32) reducesTo_S1024x64_S1024_d1 h_S_)))))

/-- One layer's normalised codebook. -/
def cbnB (e : FVec Ideal S1x1024x64 .f32) : FVec Ideal S1024x64 .f32 :=
  Host.divf (shapeCast S1024x64 e shapeCasts_S1x1024x64_S1024x64)
    (broadcastInDim S1024x64 ![0, 1] bcast_S1024x1_S1024x64_0_1 (maximumf (Host.sqrt
      (broadcastInDim S1024x1 ![0] bcast_S1024_S1024x1_0
        (Host.reduceAdd (mulf (shapeCast S1024x64 e shapeCasts_S1x1024x64_S1024x64)
          (shapeCast S1024x64 e shapeCasts_S1x1024x64_S1024x64)) (constant S_ .f32 0#32) reducesTo_S1024x64_S1024_d1 h_S_)))
      (broadcastInDim S1024x1 ![] bcast_S_S1024x1 (constant S_ .f32 0x2B8CBCCC#32))))

/-- The squared lengths of its rows. -/
def c2B (e : FVec Ideal S1x1024x64 .f32) : FVec Ideal S1024x1 .f32 :=
  broadcastInDim S1024x1 ![0] bcast_S1024_S1024x1_0
    (Host.reduceAdd (mulf (cbnB e) (cbnB e)) (constant S_ .f32 0#32) reducesTo_S1024x64_S1024_d1 h_S_)

theorem winB_at (v : FVec Ideal S1x64x1024 .f32) (g : FVec Ideal S1x64 .f32) (o : Fin 64) (d : Fin 1024) :
    winB v g (ix3 0 o d) = Spec.wn (fun i j => v (ix3 0 i j)) (fun i => g (ix2 0 i)) o d := by
  pointwise [winB, Spec.wn]

theorem woutB_at (v : FVec Ideal S1x1024x64 .f32) (g : FVec Ideal S1x1024 .f32) (d : Fin 1024) (o : Fin 64) :
    woutB v g (ix3 0 d o) = Spec.wn (fun i j => v (ix3 0 i j)) (fun i => g (ix2 0 i)) d o := by
  pointwise [woutB, Spec.wn]

theorem cbnB_at (e : FVec Ideal S1x1024x64 .f32) (k : Fin 1024) (o : Fin 64) :
    cbnB e (ix2 k o) = Spec.un (fun i j => e (ix3 0 i j)) k o := by
  pointwise [cbnB, Spec.un]

theorem c2B_at (e : FVec Ideal S1x1024x64 .f32) (k : Fin 1024) :
    c2B e (ix2 k 0) = ∑ o, Spec.un (fun i j => e (ix3 0 i j)) k o * Spec.un (fun i j => e (ix3 0 i j)) k o := by
  pointwise [c2B, cbnB_at]

/-- The layers' input weights. -/
def win (c : Dev nD) (k : ℕ) : FVec Ideal S1x64x1024 .f32 :=
  winB (pick (m (c, Proc.tc.devRef main_arg1)) k) (pick₂ (m (c, Proc.tc.devRef main_arg2)) k)
/-- The layers' output weights. -/
def wout (c : Dev nD) (k : ℕ) : FVec Ideal S1x1024x64 .f32 :=
  woutB (pick (m (c, Proc.tc.devRef main_arg4)) k) (pick₂ (m (c, Proc.tc.devRef main_arg5)) k)
/-- The layers' normalised codebooks. -/
def cbn (c : Dev nD) (k : ℕ) : FVec Ideal S1x1024x64 .f32 :=
  broadcastInDim S1x1024x64 ![1, 2] bcast_S1024x64_S1x1024x64_1_2 (cbnB (pick (m (c, Proc.tc.devRef main_arg7)) k))
/-- The squared lengths of their rows. -/
def c2 (c : Dev nD) (k : ℕ) : FVec Ideal S1x1024x1 .f32 :=
  broadcastInDim S1x1024x1 ![1, 2] bcast_S1024x1_S1x1024x1_1_2 (c2B (pick (m (c, Proc.tc.devRef main_arg7)) k))

set_option maxHeartbeats 4000000 in
theorem win_eq (c : Dev nD) : V m c main_v320 = concatenate S8x64x1024 0
    [⟨_, win m c 0⟩, ⟨_, win m c 1⟩, ⟨_, win m c 2⟩, ⟨_, win m c 3⟩, ⟨_, win m c 4⟩, ⟨_, win m c 5⟩, ⟨_, win m c 6⟩, ⟨_, win m c 7⟩]
    concatenates_S1x64x1024_S1x64x1024_S1x64x1024_S1x64x1024_S1x64x1024_S1x64x1024_S1x64x1024_S1x64x1024_S8x64x1024_d0 := by
  unfold V V0
  simp only [List.flatten_cons, List.flatten_nil, List.append_nil]
  after_reads_simp
  refine cat_congr _ ?_ ?_ ?_ ?_ ?_ ?_ ?_ ?_ <;> simp only [Matrix.cons_val] <;> after_reads_simp <;>
    simp only [slice_eq, slice₂_eq] <;> rfl

set_option maxHeartbeats 4000000 in
theorem wout_eq (c : Dev nD) : V m c main_v329 = concatenate S8x1024x64 0
    [⟨_, wout m c 0⟩, ⟨_, wout m c 1⟩, ⟨_, wout m c 2⟩, ⟨_, wout m c 3⟩, ⟨_, wout m c 4⟩, ⟨_, wout m c 5⟩, ⟨_, wout m c 6⟩, ⟨_, wout m c 7⟩]
    concatenates_S1x1024x64_S1x1024x64_S1x1024x64_S1x1024x64_S1x1024x64_S1x1024x64_S1x1024x64_S1x1024x64_S8x1024x64_d0 := by
  unfold V V0
  simp only [List.flatten_cons, List.flatten_nil, List.append_nil]
  after_reads_simp
  refine cat_congr _ ?_ ?_ ?_ ?_ ?_ ?_ ?_ ?_ <;> simp only [Matrix.cons_val] <;> after_reads_simp <;>
    simp only [slice_eq, slice₂_eq] <;> rfl

set_option maxHeartbeats 4000000 in
theorem cbn_eq (c : Dev nD) : V m c main_v338 = concatenate S8x1024x64 0
    [⟨_, cbn m c 0⟩, ⟨_, cbn m c 1⟩, ⟨_, cbn m c 2⟩, ⟨_, cbn m c 3⟩, ⟨_, cbn m c 4⟩, ⟨_, cbn m c 5⟩, ⟨_, cbn m c 6⟩, ⟨_, cbn m c 7⟩]
    concatenates_S1x1024x64_S1x1024x64_S1x1024x64_S1x1024x64_S1x1024x64_S1x1024x64_S1x1024x64_S1x1024x64_S8x1024x64_d0 := by
  unfold V V0
  simp only [List.flatten_cons, List.flatten_nil, List.append_nil]
  after_reads_simp
  refine cat_congr _ ?_ ?_ ?_ ?_ ?_ ?_ ?_ ?_ <;> simp only [Matrix.cons_val] <;> after_reads_simp <;>
    simp only [slice_eq, slice₂_eq] <;> rfl

set_option maxHeartbeats 4000000 in
theorem c2_eq (c : Dev nD) : V m c main_v347 = concatenate S8x1024x1 0
    [⟨_, c2 m c 0⟩, ⟨_, c2 m c 1⟩, ⟨_, c2 m c 2⟩, ⟨_, c2 m c 3⟩, ⟨_, c2 m c 4⟩, ⟨_, c2 m c 5⟩, ⟨_, c2 m c 6⟩, ⟨_, c2 m c 7⟩]
    concatenates_S1x1024x1_S1x1024x1_S1x1024x1_S1x1024x1_S1x1024x1_S1x1024x1_S1x1024x1_S1x1024x1_S8x1024x1_d0 := by
  unfold V V0
  simp only [List.flatten_cons, List.flatten_nil, List.append_nil]
  after_reads_simp
  refine cat_congr _ ?_ ?_ ?_ ?_ ?_ ?_ ?_ ?_ <;> simp only [Matrix.cons_val] <;> after_reads_simp <;>
    simp only [slice_eq, slice₂_eq] <;> rfl

theorem cbt_eq (c : Dev nD) : V m c main_v348 = transpose S8x64x1024 [0, 2, 1] (m (c, Proc.tc.devRef main_arg7))
    transposes_S8x1024x64_S8x64x1024_0_2_1 := by
  unfold V V0
  simp only [List.flatten_cons, List.flatten_nil, List.append_nil]
  after_reads_simp
theorem bin_eq (c : Dev nD) : V m c main_v349 = broadcastInDim S8x64x1 ![0, 1] bcast_S8x64_S8x64x1_0_1
    (m (c, Proc.tc.devRef main_arg3)) := by
  unfold V V0
  simp only [List.flatten_cons, List.flatten_nil, List.append_nil]
  after_reads_simp
theorem bout_eq (c : Dev nD) : V m c main_v350 = broadcastInDim S8x1024x1 ![0, 1] bcast_S8x1024_S8x1024x1_0_1
    (m (c, Proc.tc.devRef main_arg6)) := by
  unfold V V0
  simp only [List.flatten_cons, List.flatten_nil, List.append_nil]
  after_reads_simp

/-- The arguments as stacks. -/
def mat {a b : ℕ} (A : FVec Ideal (⟨3, ![8, a, b]⟩ : Shape) .f32) : Fin 8 → Fin a → Fin b → EReal := fun k i j => A (ix3 k i j)
def vec {a : ℕ} (A : FVec Ideal (⟨2, ![8, a]⟩ : Shape) .f32) : Fin 8 → Fin a → EReal := fun k i => A (ix2 k i)

theorem mod_ofNat (n : ℕ) : Fin.ofNat 8 (Fin.ofNat 8 n).val = Fin.ofNat 8 n := Fin.ext (Nat.mod_mod n 8)

/-- The layers the grid is launched on are the layers of the arguments. -/
theorem lay_eq (c : Dev nD) : KerValue.lay m c = Spec.layOf (mat (m ((c : Thread nD τ).loc main_arg1)))
    (vec (m ((c : Thread nD τ).loc main_arg2))) (vec (m ((c : Thread nD τ).loc main_arg3)))
    (mat (m ((c : Thread nD τ).loc main_arg4))) (vec (m ((c : Thread nD τ).loc main_arg5)))
    (vec (m ((c : Thread nD τ).loc main_arg6))) (mat (m ((c : Thread nD τ).loc main_arg7))) := by
  funext n
  have h1 (o : Fin 64) (d : Fin 1024) : V m c main_v320 (ix3 (Fin.ofNat 8 n) o d)
      = Spec.wn (mat (m ((c : Thread nD τ).loc main_arg1)) (Fin.ofNat 8 n)) (vec (m ((c : Thread nD τ).loc main_arg2)) (Fin.ofNat 8 n)) o d := by
    rw [win_eq]
    refine (cat_at (win m c) _ _ _ _).trans ((winB_at _ _ o d).trans ?_)
    unfold pick pick₂ mat vec
    rw [mod_ofNat]
    rfl
  have h3 (d : Fin 1024) (o : Fin 64) : V m c main_v329 (ix3 (Fin.ofNat 8 n) d o)
      = Spec.wn (mat (m ((c : Thread nD τ).loc main_arg4)) (Fin.ofNat 8 n)) (vec (m ((c : Thread nD τ).loc main_arg5)) (Fin.ofNat 8 n)) d o := by
    rw [wout_eq]
    refine (cat_at (wout m c) _ _ _ _).trans ((woutB_at _ _ d o).trans ?_)
    unfold pick pick₂ mat vec
    rw [mod_ofNat]
    rfl
  have h5 (k : Fin 1024) (o : Fin 64) : V m c main_v338 (ix3 (Fin.ofNat 8 n) k o)
      = Spec.un (mat (m ((c : Thread nD τ).loc main_arg7)) (Fin.ofNat 8 n)) k o := by
    rw [cbn_eq]
    refine (cat_at (cbn m c) _ _ _ _).trans ?_
    have : cbn m c (Fin.ofNat 8 n).val (ix3 0 k o) = cbnB (pick (m (c, Proc.tc.devRef main_arg7)) (Fin.ofNat 8 n).val) (ix2 k o) := by
      pointwise [cbn]
    refine this.trans ((cbnB_at _ k o).trans ?_)
    unfold pick mat
    rw [mod_ofNat]
    rfl
  have h7 (k : Fin 1024) : V m c main_v347 (ix3 (Fin.ofNat 8 n) k 0)
      = ∑ o, Spec.un (mat (m ((c : Thread nD τ).loc main_arg7)) (Fin.ofNat 8 n)) k o * Spec.un (mat (m ((c : Thread nD τ).loc main_arg7)) (Fin.ofNat 8 n)) k o := by
    rw [c2_eq]
    refine (cat_at (c2 m c) _ _ _ _).trans ?_
    have : c2 m c (Fin.ofNat 8 n).val (ix3 0 k 0) = c2B (pick (m (c, Proc.tc.devRef main_arg7)) (Fin.ofNat 8 n).val) (ix2 k 0) := by
      pointwise [c2]
    refine this.trans ((c2B_at _ k).trans ?_)
    unfold pick mat
    rw [mod_ofNat]
    rfl
  have h2 (o : Fin 64) : V m c main_v349 (ix3 (Fin.ofNat 8 n) o 0) = vec (m ((c : Thread nD τ).loc main_arg3)) (Fin.ofNat 8 n) o := by
    rw [bin_eq]
    pointwise [vec]
  have h4 (d : Fin 1024) : V m c main_v350 (ix3 (Fin.ofNat 8 n) d 0) = vec (m ((c : Thread nD τ).loc main_arg6)) (Fin.ofNat 8 n) d := by
    rw [bout_eq]
    pointwise [vec]
  have h6 (o : Fin 64) (k : Fin 1024) : V m c main_v348 (ix3 (Fin.ofNat 8 n) o k) = mat (m ((c : Thread nD τ).loc main_arg7)) (Fin.ofNat 8 n) k o := by
    rw [cbt_eq]
    pointwise [mat]
  unfold KerValue.lay KerBlock.lay Spec.layOf
  simp only [h1, h2, h3, h4, h5, h6, h7]

end Cert.KerHost
end
-- ==== Proof.KerRun.lean ====
/- What the kernel's program ends with. -/
module

public import proofs.«01_k».proof.Proof.KerValue
public import Idealize.ShloMosaic.Lib.StableHlo.RunRead
public import Idealize.ShloMosaic.Lib.Claim

@[expose] public section

set_option maxRecDepth 16384

noncomputable section

namespace Cert.KerRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The loss: the squared errors of every layer and token, summed and divided by the count. -/
def loss (c : Dev nD) (_ : S_.Idx) : EReal :=
  Ideal.div (∑ b, ∑ k, ∑ t, KerValue.parts m c (ix3 b k t)) (Ideal.ofBits .f32 0x49800000#32)

theorem tail (c : Dev nD) : Pipeline.afterTail₀ cfgs (dats m) 0 (V0 m) [hostOps1] c main_v353 = loss m c := by
  unfold Pipeline.afterTail₀
  simp only [List.flatten_cons, List.flatten_nil, List.append_nil]
  have h : Pipeline.withArrays (cfgs 0).spec c (V0 m c) (fun w => (dats m 0 c).arrAt w (cfgs 0).N) (Proc.devRef .tc main_v351_2)
      = KerValue.parts m c :=
    (Pipeline.withArrays_arr (cfgs 0).spec (by decide) c (V0 m c) (fun w => (dats m 0 c).arrAt w (cfgs 0).N) 10).trans (KerValue.final10 m c)
  generalize Pipeline.withArrays (cfgs 0).spec c (V0 m c) (fun w => (dats m 0 c).arrAt w (cfgs 0).N) = W at h
  after_reads_simp
  rw [h]
  unfold loss
  generalize KerValue.parts m c = P at *
  funext i
  pointwise

theorem run : θ_run defs (onTc (τ := τ) (main (F := Ideal))) ⟨m, fun _ => 0, ρ⟩ (fun r => ∀ c : Dev nD,
    r.2.mem ((c.tc : Thread nD τ).loc main_v351_0) = KerValue.codes m c
    ∧ r.2.mem ((c.tc : Thread nD τ).loc main_v351_1) = KerValue.latent m c
    ∧ r.2.mem ((c.tc : Thread nD τ).loc main_v353) = loss m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  θ_run_mono (θ_run_and (run_main m ρ) (unchanged m ρ)) fun r h c =>
    ⟨((h.1 c).1 8).trans (KerValue.final8 m c), ((h.1 c).1 9).trans (KerValue.final9 m c),
      ((h.1 c).2 main_v353 (Pipeline.mem_restRefs_of main_v353 (by decide) (by decide))).trans (tail m c), h.2 c⟩

end Cert.KerRun
end
-- ==== Proof.RefRun.lean ====
/- The reference program runs to its end: the operation lists of its host code and of the body of its loop over the
   layers, one run theorem for all buffers (`run_fold`), and the buffers of the arguments unchanged (`keep`). -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.StableHlo.RunHlo

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations, as lists -/

/-- What comes before the loop: the carried values at the start. -/
abbrev opsEntry : List (HloOp τ sig (Elt F)) :=
  [ StableHlo.nullary main_cst (constant S_ .f32 0x00000000#32),
    StableHlo.unary main_cst main_v0 (broadcastInDim S16x1024x1024 ![] bcast_S_S16x1024x1024 : (⟨S_, .f32⟩ : BufTy).Contents (Elt F) → (⟨S16x1024x1024, .f32⟩ : BufTy).Contents (Elt F)),
    StableHlo.nullary main_cst_0 (constant S_ .f32 0x00000000#32),
    StableHlo.nullary main_cst_1 (constant S_ .f32 0x00000000#32),
    StableHlo.nullary main_c (constantI S_ 32 0#32),
    StableHlo.unary main_c main_v1 (broadcastInDim S8x16x1024 ![] bcast_S_S8x16x1024 : (⟨S_, .i32⟩ : BufTy).Contents (Elt F) → (⟨S8x16x1024, .i32⟩ : BufTy).Contents (Elt F)),
    StableHlo.nullary main_c_2 (constantI S_ 32 0#32),
    StableHlo.unary main_arg1 main_v2_0 id,
    StableHlo.unary main_arg2 main_v2_1 id,
    StableHlo.unary main_arg3 main_v2_2 id,
    StableHlo.unary main_arg4 main_v2_3 id,
    StableHlo.unary main_arg5 main_v2_4 id,
    StableHlo.unary main_arg6 main_v2_5 id,
    StableHlo.unary main_arg7 main_v2_6 id,
    StableHlo.unary main_c_2 main_v2_7 id,
    StableHlo.unary main_arg0 main_v2_8 id,
    StableHlo.unary main_v0 main_v2_9 id,
    StableHlo.unary main_cst_0 main_v2_10 id,
    StableHlo.unary main_cst_1 main_v2_11 id,
    StableHlo.unary main_v1 main_v2_12 id ]

/-- What comes after the loop: the codes transposed. -/
abbrev opsExit : List (HloOp τ sig (Elt F)) :=
  [ StableHlo.unary main_v2_12 main_v3 ((transpose S16x8x1024 [1, 0, 2] · transposes_S8x16x1024_S16x8x1024_1_0_2) : (⟨S8x16x1024, .i32⟩ : BufTy).Contents (Elt F) → (⟨S16x8x1024, .i32⟩ : BufTy).Contents (Elt F)) ]

/-- This layer's input weights. -/
abbrev opsWin : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S8x64x1024, .f32⟩) ![(.of main_v2_7 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x1024, .f32⟩) (fun x i => Host.dynamicSlice S1x64x1024 x (fun k => (i k (Shape.Idx.first h_S_)).toInt) sliceFits_S8x64x1024_S1x64x1024),
    StableHlo.TRef.reshape (.of main_while0b_call0_v0 : StableHlo.TRef sig ⟨S1x64x1024, .f32⟩) (.of main_while0b_v4 : StableHlo.TRef sig ⟨S64x1024, .f32⟩) (rfl : (.f32 : EltTy) = .f32) shapeCasts_S1x64x1024_S64x1024 ]

/-- This layer's input gains. -/
abbrev opsGin : List (HloOp τ sig (Elt F)) :=
  [ StableHlo.TRef.nullary (.of main_while0b_call1_c : StableHlo.TRef sig ⟨S_, .i32⟩) (constantI S_ 32 0#32),
    StableHlo.TRef.unaryIndexed (.of main_v2_1 : StableHlo.TRef sig ⟨S8x64, .f32⟩) ![(.of main_v2_7 : StableHlo.TRef sig ⟨S_, .i32⟩), (.of main_while0b_call1_c : StableHlo.TRef sig ⟨S_, .i32⟩)] (.of main_while0b_call1_v0 : StableHlo.TRef sig ⟨S1x64, .f32⟩) (fun x i => Host.dynamicSlice S1x64 x (fun k => (i k (Shape.Idx.first h_S_)).toInt) sliceFits_S8x64_S1x64),
    StableHlo.TRef.reshape (.of main_while0b_call1_v0 : StableHlo.TRef sig ⟨S1x64, .f32⟩) (.of main_while0b_v5 : StableHlo.TRef sig ⟨S64, .f32⟩) (rfl : (.f32 : EltTy) = .f32) shapeCasts_S1x64_S64 ]

/-- This layer's input bias. -/
abbrev opsBin : List (HloOp τ sig (Elt F)) :=
  [ StableHlo.TRef.nullary (.of main_while0b_call2_c : StableHlo.TRef sig ⟨S_, .i32⟩) (constantI S_ 32 0#32),
    StableHlo.TRef.unaryIndexed (.of main_v2_2 : StableHlo.TRef sig ⟨S8x64, .f32⟩) ![(.of main_v2_7 : StableHlo.TRef sig ⟨S_, .i32⟩), (.of main_while0b_call2_c : StableHlo.TRef sig ⟨S_, .i32⟩)] (.of main_while0b_call2_v0 : StableHlo.TRef sig ⟨S1x64, .f32⟩) (fun x i => Host.dynamicSlice S1x64 x (fun k => (i k (Shape.Idx.first h_S_)).toInt) sliceFits_S8x64_S1x64),
    StableHlo.TRef.reshape (.of main_while0b_call2_v0 : StableHlo.TRef sig ⟨S1x64, .f32⟩) (.of main_while0b_v6 : StableHlo.TRef sig ⟨S64, .f32⟩) (rfl : (.f32 : EltTy) = .f32) shapeCasts_S1x64_S64 ]

/-- This layer's output weights. -/
abbrev opsWout : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v2_3 : StableHlo.TRef sig ⟨S8x1024x64, .f32⟩) ![(.of main_v2_7 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x1024x64, .f32⟩) (fun x i => Host.dynamicSlice S1x1024x64 x (fun k => (i k (Shape.Idx.first h_S_)).toInt) sliceFits_S8x1024x64_S1x1024x64),
    StableHlo.TRef.reshape (.of main_while0b_call3_v0 : StableHlo.TRef sig ⟨S1x1024x64, .f32⟩) (.of main_while0b_v7 : StableHlo.TRef sig ⟨S1024x64, .f32⟩) (rfl : (.f32 : EltTy) = .f32) shapeCasts_S1x1024x64_S1024x64 ]

/-- This layer's output gains. -/
abbrev opsGout : List (HloOp τ sig (Elt F)) :=
  [ StableHlo.TRef.nullary (.of main_while0b_call4_c : StableHlo.TRef sig ⟨S_, .i32⟩) (constantI S_ 32 0#32),
    StableHlo.TRef.unaryIndexed (.of main_v2_4 : StableHlo.TRef sig ⟨S8x1024, .f32⟩) ![(.of main_v2_7 : StableHlo.TRef sig ⟨S_, .i32⟩), (.of main_while0b_call4_c : StableHlo.TRef sig ⟨S_, .i32⟩)] (.of main_while0b_call4_v0 : StableHlo.TRef sig ⟨S1x1024, .f32⟩) (fun x i => Host.dynamicSlice S1x1024 x (fun k => (i k (Shape.Idx.first h_S_)).toInt) sliceFits_S8x1024_S1x1024),
    StableHlo.TRef.reshape (.of main_while0b_call4_v0 : StableHlo.TRef sig ⟨S1x1024, .f32⟩) (.of main_while0b_v8 : StableHlo.TRef sig ⟨S1024, .f32⟩) (rfl : (.f32 : EltTy) = .f32) shapeCasts_S1x1024_S1024 ]

/-- This layer's output bias. -/
abbrev opsBout : List (HloOp τ sig (Elt F)) :=
  [ StableHlo.TRef.nullary (.of main_while0b_call5_c : StableHlo.TRef sig ⟨S_, .i32⟩) (constantI S_ 32 0#32),
    StableHlo.TRef.unaryIndexed (.of main_v2_5 : StableHlo.TRef sig ⟨S8x1024, .f32⟩) ![(.of main_v2_7 : StableHlo.TRef sig ⟨S_, .i32⟩), (.of main_while0b_call5_c : StableHlo.TRef sig ⟨S_, .i32⟩)] (.of main_while0b_call5_v0 : StableHlo.TRef sig ⟨S1x1024, .f32⟩) (fun x i => Host.dynamicSlice S1x1024 x (fun k => (i k (Shape.Idx.first h_S_)).toInt) sliceFits_S8x1024_S1x1024),
    StableHlo.TRef.reshape (.of main_while0b_call5_v0 : StableHlo.TRef sig ⟨S1x1024, .f32⟩) (.of main_while0b_v9 : StableHlo.TRef sig ⟨S1024, .f32⟩) (rfl : (.f32 : EltTy) = .f32) shapeCasts_S1x1024_S1024 ]

/-- This layer's codebook. -/
abbrev opsBook : List (HloOp τ sig (Elt F)) :=
  [ StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.unaryIndexed (.of main_v2_6 : StableHlo.TRef sig ⟨S8x1024x64, .f32⟩) ![(.of main_v2_7 : StableHlo.TRef sig ⟨S_, .i32⟩), (.of main_while0b_call6_c : StableHlo.TRef sig ⟨S_, .i32⟩), (.of main_while0b_call6_c_0 : StableHlo.TRef sig ⟨S_, .i32⟩)] (.of main_while0b_call6_v0 : StableHlo.TRef sig ⟨S1x1024x64, .f32⟩) (fun x i => Host.dynamicSlice S1x1024x64 x (fun k => (i k (Shape.Idx.first h_S_)).toInt) sliceFits_S8x1024x64_S1x1024x64),
    StableHlo.TRef.reshape (.of main_while0b_call6_v0 : StableHlo.TRef sig ⟨S1x1024x64, .f32⟩) (.of main_while0b_v10 : StableHlo.TRef sig ⟨S1024x64, .f32⟩) (rfl : (.f32 : EltTy) = .f32) shapeCasts_S1x1024x64_S1024x64 ]

/-- Projection and the negated distances to the codebook. -/
abbrev opsScore : List (HloOp τ sig (Elt F)) :=
  ( StableHlo.binary main_while0b_v4 main_while0b_v4 main_while0b_v11 (mulf : (⟨S64x1024, .f32⟩ : BufTy).Contents (Elt F) → (⟨S64x1024, .f32⟩ : BufTy).Contents (Elt F) → (⟨S64x1024, .f32⟩ : BufTy).Contents (Elt F))
  :: StableHlo.nullary main_while0b_cst_15 (constant S_ .f32 0x00000000#32)
  :: StableHlo.binary main_while0b_v11 main_while0b_cst_15 main_while0b_v12 ((fun x v => Host.reduceAdd x v reducesTo_S64x1024_S64_d1 h_S_) : (⟨S64x1024, .f32⟩ : BufTy).Contents (Elt F) → (⟨S_, .f32⟩ : BufTy).Contents (Elt F) → (⟨S64, .f32⟩ : BufTy).Contents (Elt F))
  :: StableHlo.unary main_while0b_v12 main_while0b_v13 (broadcastInDim S64x1 ![0] bcast_S64_S64x1_0 : (⟨S64, .f32⟩ : BufTy).Contents (Elt F) → (⟨S64x1, .f32⟩ : BufTy).Contents (Elt F))
  :: StableHlo.unary main_while0b_v13 main_while0b_v14 (Host.sqrt : (⟨S64x1, .f32⟩ : BufTy).Contents (Elt F) → (⟨S64x1, .f32⟩ : BufTy).Contents (Elt F))
  :: StableHlo.unary main_while0b_v5 main_while0b_v15 (broadcastInDim S64x1 ![0] bcast_S64_S64x1_0 : (⟨S64, .f32⟩ : BufTy).Contents (Elt F) → (⟨S64x1, .f32⟩ : BufTy).Contents (Elt F))
  :: StableHlo.unary main_while0b_v15 main_while0b_v16 (broadcastInDim S64x1024 ![0, 1] bcast_S64x1_S64x1024_0_1 : (⟨S64x1, .f32⟩ : BufTy).Contents (Elt F) → (⟨S64x1024, .f32⟩ : BufTy).Contents (Elt F))
  :: StableHlo.binary main_while0b_v16 main_while0b_v4 main_while0b_v17 (mulf : (⟨S64x1024, .f32⟩ : BufTy).Contents (Elt F) → (⟨S64x1024, .f32⟩ : BufTy).Contents (Elt F) → (⟨S64x1024, .f32⟩ : BufTy).Contents (Elt F))
  :: StableHlo.unary main_while0b_v14 main_while0b_v18 (broadcastInDim S64x1024 ![0, 1] bcast_S64x1_S64x1024_0_1 : (⟨S64x1, .f32⟩ : BufTy).Contents (Elt F) → (⟨S64x1024, .f32⟩ : BufTy).Contents (Elt F))
  :: StableHlo.binary main_while0b_v17 main_while0b_v18 main_while0b_v19 (Host.divf : (⟨S64x1024, .f32⟩ : BufTy).Contents (Elt F) → (⟨S64x1024, .f32⟩ : BufTy).Contents (Elt F) → (⟨S64x1024, .f32⟩ : BufTy).Contents (Elt F))
  :: StableHlo.binary main_v2_8 main_while0b_v19 main_while0b_v20 ((fun l r => Host.dotGeneral dot_S16x1024x1024_S64x1024_S16x1024x64_1_1_02_0_n_n none l r) : (⟨S16x1024x1024, .f32⟩ : BufTy).Contents (Elt F) → (⟨S64x1024, .f32⟩ : BufTy).Contents (Elt F) → (⟨S16x1024x64, .f32⟩ : BufTy).Contents (Elt F))
  :: StableHlo.unary main_while0b_v20 main_while0b_v21 ((transpose S16x64x1024 [0, 2, 1] · transposes_S16x1024x64_S16x64x1024_0_2_1) : (⟨S16x1024x64, .f32⟩ : BufTy).Contents (Elt F) → (⟨S16x64x1024, .f32⟩ : BufTy).Contents (Elt F))
  :: StableHlo.unary main_while0b_v6 main_while0b_v22 (broadcastInDim S1x64x1 ![1] bcast_S64_S1x64x1_1 : (⟨S64, .f32⟩ : BufTy).Contents (Elt F) → (⟨S1x64x1, .f32⟩ : BufTy).Contents (Elt F))
  :: StableHlo.unary main_while0b_v22 main_while0b_v23 (broadcastInDim S16x64x1024 ![0, 1, 2] bcast_S1x64x1_S16x64x1024_0_1_2 : (⟨S1x64x1, .f32⟩ : BufTy).Contents (Elt F) → (⟨S16x64x1024, .f32⟩ : BufTy).Contents (Elt F))
  :: StableHlo.binary main_while0b_v21 main_while0b_v23 main_while0b_v24 (addf : (⟨S16x64x1024, .f32⟩ : BufTy).Contents (Elt F) → (⟨S16x64x1024, .f32⟩ : BufTy).Contents (Elt F) → (⟨S16x64x1024, .f32⟩ : BufTy).Contents (Elt F))
  :: StableHlo.unary main_while0b_v24 main_while0b_v25 ((transpose S16x1024x64 [0, 2, 1] · transposes_S16x64x1024_S16x1024x64_0_2_1) : (⟨S16x64x1024, .f32⟩ : BufTy).Contents (Elt F) → (⟨S16x1024x64, .f32⟩ : BufTy).Contents (Elt F))
  :: StableHlo.reshape main_while0b_v25 main_while0b_v26 (rfl : (.f32 : EltTy) = .f32) shapeCasts_S16x1024x64_S16384x64
  :: StableHlo.binary main_while0b_v26 main_while0b_v26 main_while0b_v27 (mulf : (⟨S16384x64, .f32⟩ : BufTy).Contents (Elt F) → (⟨S16384x64, .f32⟩ : BufTy).Contents (Elt F) → (⟨S16384x64, .f32⟩ : BufTy).Contents (Elt F))
  :: StableHlo.nullary main_while0b_cst_16 (constant S_ .f32 0x00000000#32)
  :: StableHlo.binary main_while0b_v27 main_while0b_cst_16 main_while0b_v28 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F))
  :: StableHlo.unary main_while0b_v28 main_while0b_v29 (broadcastInDim S16384x1 ![0] bcast_S16384_S16384x1_0 : (⟨S16384, .f32⟩ : BufTy).Contents (Elt F) → (⟨S16384x1, .f32⟩ : BufTy).Contents (Elt F))
  :: StableHlo.unary main_while0b_v29 main_while0b_v30 (Host.sqrt : (⟨S16384x1, .f32⟩ : BufTy).Contents (Elt F) → (⟨S16384x1, .f32⟩ : BufTy).Contents (Elt F))
  :: StableHlo.nullary main_while0b_cst_17 (constant S_ .f32 0x2B8CBCCC#32)
  :: StableHlo.unary main_while0b_cst_17 main_while0b_v31 (broadcastInDim S16384x1 ![] bcast_S_S16384x1 : (⟨S_, .f32⟩ : BufTy).Contents (Elt F) → (⟨S16384x1, .f32⟩ : BufTy).Contents (Elt F))
  :: StableHlo.binary main_while0b_v30 main_while0b_v31 main_while0b_v32 (maximumf : (⟨S16384x1, .f32⟩ : BufTy).Contents (Elt F) → (⟨S16384x1, .f32⟩ : BufTy).Contents (Elt F) → (⟨S16384x1, .f32⟩ : BufTy).Contents (Elt F))
  :: StableHlo.unary main_while0b_v32 main_while0b_v33 (broadcastInDim S16384x64 ![0, 1] bcast_S16384x1_S16384x64_0_1 : (⟨S16384x1, .f32⟩ : BufTy).Contents (Elt F) → (⟨S16384x64, .f32⟩ : BufTy).Contents (Elt F))
  :: StableHlo.binary main_while0b_v26 main_while0b_v33 main_while0b_v34 (Host.divf : (⟨S16384x64, .f32⟩ : BufTy).Contents (Elt F) → (⟨S16384x64, .f32⟩ : BufTy).Contents (Elt F) → (⟨S16384x64, .f32⟩ : BufTy).Contents (Elt F))
  :: StableHlo.binary main_while0b_v10 main_while0b_v10 main_while0b_v35 (mulf : (⟨S1024x64, .f32⟩ : BufTy).Contents (Elt F) → (⟨S1024x64, .f32⟩ : BufTy).Contents (Elt F) → (⟨S1024x64, .f32⟩ : BufTy).Contents (Elt F))
  :: StableHlo.nullary main_while0b_cst_18 (constant S_ .f32 0x00000000#32)
  :: StableHlo.binary main_while0b_v35 main_while0b_cst_18 main_while0b_v36 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F))
  :: StableHlo.unary main_while0b_v36 main_while0b_v37 (broadcastInDim S1024x1 ![0] bcast_S1024_S1024x1_0 : (⟨S1024, .f32⟩ : BufTy).Contents (Elt F) → (⟨S1024x1, .f32⟩ : BufTy).Contents (Elt F))
  :: StableHlo.unary main_while0b_v37 main_while0b_v38 (Host.sqrt : (⟨S1024x1, .f32⟩ : BufTy).Contents (Elt F) → (⟨S1024x1, .f32⟩ : BufTy).Contents (Elt F))
  :: StableHlo.nullary main_while0b_cst_19 (constant S_ .f32 0x2B8CBCCC#32)
  :: StableHlo.unary main_while0b_cst_19 main_while0b_v39 (broadcastInDim S1024x1 ![] bcast_S_S1024x1 : (⟨S_, .f32⟩ : BufTy).Contents (Elt F) → (⟨S1024x1, .f32⟩ : BufTy).Contents (Elt F))
  :: StableHlo.binary main_while0b_v38 main_while0b_v39 main_while0b_v40 (maximumf : (⟨S1024x1, .f32⟩ : BufTy).Contents (Elt F) → (⟨S1024x1, .f32⟩ : BufTy).Contents (Elt F) → (⟨S1024x1, .f32⟩ : BufTy).Contents (Elt F))
  :: StableHlo.unary main_while0b_v40 main_while0b_v41 (broadcastInDim S1024x64 ![0, 1] bcast_S1024x1_S1024x64_0_1 : (⟨S1024x1, .f32⟩ : BufTy).Contents (Elt F) → (⟨S1024x64, .f32⟩ : BufTy).Contents (Elt F))
  :: StableHlo.binary main_while0b_v10 main_while0b_v41 main_while0b_v42 (Host.divf : (⟨S1024x64, .f32⟩ : BufTy).Contents (Elt F) → (⟨S1024x64, .f32⟩ : BufTy).Contents (Elt F) → (⟨S1024x64, .f32⟩ : BufTy).Contents (Elt F))
  :: StableHlo.binary main_while0b_v34 main_while0b_v34 main_while0b_v43 (mulf : (⟨S16384x64, .f32⟩ : BufTy).Contents (Elt F) → (⟨S16384x64, .f32⟩ : BufTy).Contents (Elt F) → (⟨S16384x64, .f32⟩ : BufTy).Contents (Elt F))
  :: StableHlo.nullary main_while0b_cst_20 (constant S_ .f32 0x00000000#32)
  :: StableHlo.binary main_while0b_v43 main_while0b_cst_20 main_while0b_v44 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F))
  :: StableHlo.unary main_while0b_v44 main_while0b_v45 (broadcastInDim S16384x1 ![0] bcast_S16384_S16384x1_0 : (⟨S16384, .f32⟩ : BufTy).Contents (Elt F) → (⟨S16384x1, .f32⟩ : BufTy).Contents (Elt F))
  :: StableHlo.nullary main_while0b_cst_21 (constant S_ .f32 0x40000000#32)
  :: StableHlo.unary main_while0b_cst_21 main_while0b_v46 (broadcastInDim S16384x64 ![] bcast_S_S16384x64 : (⟨S_, .f32⟩ : BufTy).Contents (Elt F) → (⟨S16384x64, .f32⟩ : BufTy).Contents (Elt F))
  :: StableHlo.binary main_while0b_v46 main_while0b_v34 main_while0b_v47 (mulf : (⟨S16384x64, .f32⟩ : BufTy).Contents (Elt F) → (⟨S16384x64, .f32⟩ : BufTy).Contents (Elt F) → (⟨S16384x64, .f32⟩ : BufTy).Contents (Elt F))
  :: StableHlo.unary main_while0b_v42 main_while0b_v48 ((transpose S64x1024 [1, 0] · transposes_S1024x64_S64x1024_1_0) : (⟨S1024x64, .f32⟩ : BufTy).Contents (Elt F) → (⟨S64x1024, .f32⟩ : BufTy).Contents (Elt F))
  :: StableHlo.binary main_while0b_v47 main_while0b_v48 main_while0b_v49 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F))
  :: StableHlo.unary main_while0b_v45 main_while0b_v50 (broadcastInDim S16384x1024 ![0, 1] bcast_S16384x1_S16384x1024_0_1 : (⟨S16384x1, .f32⟩ : BufTy).Contents (Elt F) → (⟨S16384x1024, .f32⟩ : BufTy).Contents (Elt F))
  :: StableHlo.binary main_while0b_v50 main_while0b_v49 main_while0b_v51 (subf : (⟨S16384x1024, .f32⟩ : BufTy).Contents (Elt F) → (⟨S16384x1024, .f32⟩ : BufTy).Contents (Elt F) → (⟨S16384x1024, .f32⟩ : BufTy).Contents (Elt F))
  :: StableHlo.binary main_while0b_v42 main_while0b_v42 main_while0b_v52 (mulf : (⟨S1024x64, .f32⟩ : BufTy).Contents (Elt F) → (⟨S1024x64, .f32⟩ : BufTy).Contents (Elt F) → (⟨S1024x64, .f32⟩ : BufTy).Contents (Elt F))
  :: StableHlo.nullary main_while0b_cst_22 (constant S_ .f32 0x00000000#32)
  :: StableHlo.binary main_while0b_v52 main_while0b_cst_22 main_while0b_v53 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F))
  :: StableHlo.unary main_while0b_v53 main_while0b_v54 (broadcastInDim S1x1024 ![1] bcast_S1024_S1x1024_1 : (⟨S1024, .f32⟩ : BufTy).Contents (Elt F) → (⟨S1x1024, .f32⟩ : BufTy).Contents (Elt F))
  :: StableHlo.unary main_while0b_v54 main_while0b_v55 (broadcastInDim S16384x1024 ![0, 1] bcast_S1x1024_S16384x1024_0_1 : (⟨S1x1024, .f32⟩ : BufTy).Contents (Elt F) → (⟨S16384x1024, .f32⟩ : BufTy).Contents (Elt F))
  :: StableHlo.binary main_while0b_v51 main_while0b_v55 main_while0b_v56 (addf : (⟨S16384x1024, .f32⟩ : BufTy).Contents (Elt F) → (⟨S16384x1024, .f32⟩ : BufTy).Contents (Elt F) → (⟨S16384x1024, .f32⟩ : BufTy).Contents (Elt F))
  :: StableHlo.unary main_while0b_v56 main_while0b_v57 (Host.negf : (⟨S16384x1024, .f32⟩ : BufTy).Contents (Elt F) → (⟨S16384x1024, .f32⟩ : BufTy).Contents (Elt F))
  :: [] )

/-- The best row of each token. -/
abbrev opsArg : List (HloOp τ sig (Elt F)) :=
  [ StableHlo.TRef.nullary (.of main_while0b_call7_v0 : StableHlo.TRef sig ⟨S16384x1024, .i32⟩) (iotaInDim S16384x1024 32 1),
    StableHlo.TRef.nullary (.of main_while0b_call7_cst : StableHlo.TRef sig ⟨S_, .f32⟩) (constant S_ .f32 0xFF800000#32),
    StableHlo.TRef.nullary (.of main_while0b_call7_c : StableHlo.TRef sig ⟨S_, .i32⟩) (constantI S_ 32 0#32),
    StableHlo.TRef.quaternary (.of main_while0b_v57 : StableHlo.TRef sig ⟨S16384x1024, .f32⟩) (.of main_while0b_call7_v0 : StableHlo.TRef sig ⟨S16384x1024, .i32⟩) (.of main_while0b_call7_cst : StableHlo.TRef sig ⟨S_, .f32⟩) (.of main_while0b_call7_c : StableHlo.TRef sig ⟨S_, .i32⟩) (.of main_while0b_call7_v1_0 : StableHlo.TRef sig ⟨S16384, .f32⟩) (fun x y u v j => (Host.argReduce reducer_argmax_f32_i32 x y u v reducesTo_S16384x1024_S16384_d1 h_S_ j).1),
    StableHlo.TRef.quaternary (.of main_while0b_v57 : StableHlo.TRef sig ⟨S16384x1024, .f32⟩) (.of main_while0b_call7_v0 : StableHlo.TRef sig ⟨S16384x1024, .i32⟩) (.of main_while0b_call7_cst : StableHlo.TRef sig ⟨S_, .f32⟩) (.of main_while0b_call7_c : StableHlo.TRef sig ⟨S_, .i32⟩) (.of main_while0b_v58 : StableHlo.TRef sig ⟨S16384, .i32⟩) (fun x y u v j => (Host.argReduce reducer_argmax_f32_i32 x y u v reducesTo_S16384x1024_S16384_d1 h_S_ j).2) ]

/-- The rows as an array over batch and time. -/
abbrev opsIdx : List (HloOp τ sig (Elt F)) :=
  [ StableHlo.reshape main_while0b_v58 main_while0b_v59 (rfl : (.i32 : EltTy) = .i32) shapeCasts_S16384_S16x1024 ]

/-- The chosen codebook rows. -/
abbrev opsTake : List (HloOp τ sig (Elt F)) :=
  [ StableHlo.TRef.nullary (.of main_while0b_call8_c : StableHlo.TRef sig ⟨S_, .i32⟩) (constantI S_ 32 0#32),
    StableHlo.TRef.unary (.of main_while0b_call8_c : StableHlo.TRef sig ⟨S_, .i32⟩) (.of main_while0b_call8_v0 : StableHlo.TRef sig ⟨S16x1024, .i32⟩) (broadcastInDim S16x1024 ![] bcast_S_S16x1024),
    StableHlo.TRef.binary (.of main_while0b_v59 : StableHlo.TRef sig ⟨S16x1024, .i32⟩) (.of main_while0b_call8_v0 : StableHlo.TRef sig ⟨S16x1024, .i32⟩) (.of main_while0b_call8_v1 : StableHlo.TRef sig ⟨S16x1024, .i1⟩) (cmpi .slt),
    StableHlo.TRef.nullary (.of main_while0b_call8_c_0 : StableHlo.TRef sig ⟨S_, .i32⟩) (constantI S_ 32 1024#32),
    StableHlo.TRef.unary (.of main_while0b_call8_c_0 : StableHlo.TRef sig ⟨S_, .i32⟩) (.of main_while0b_call8_v2 : StableHlo.TRef sig ⟨S16x1024, .i32⟩) (broadcastInDim S16x1024 ![] bcast_S_S16x1024),
    StableHlo.TRef.binary (.of main_while0b_v59 : StableHlo.TRef sig ⟨S16x1024, .i32⟩) (.of main_while0b_call8_v2 : StableHlo.TRef sig ⟨S16x1024, .i32⟩) (.of main_while0b_call8_v3 : StableHlo.TRef sig ⟨S16x1024, .i32⟩) addi,
    StableHlo.TRef.ternary (.of main_while0b_call8_v1 : StableHlo.TRef sig ⟨S16x1024, .i1⟩) (.of main_while0b_call8_v3 : StableHlo.TRef sig ⟨S16x1024, .i32⟩) (.of main_while0b_v59 : StableHlo.TRef sig ⟨S16x1024, .i32⟩) (.of main_while0b_call8_v4 : StableHlo.TRef sig ⟨S16x1024, .i32⟩) select,
    StableHlo.TRef.unary main_while0b_call8_call0.v0 (.of main_while0b_call8_v5 : StableHlo.TRef sig ⟨S16x1024x1, .i32⟩) (broadcastInDim S16x1024x1 ![0, 1] bcast_S16x1024_S16x1024x1_0_1),
    StableHlo.TRef.nullary (.of main_while0b_call8_c_1 : StableHlo.TRef sig ⟨S1, .i32⟩) (constantI S1 32 1023#32),
    StableHlo.TRef.nullary (.of main_while0b_call8_c_2 : StableHlo.TRef sig ⟨S_, .i32⟩) (constantI S_ 32 0#32),
    StableHlo.TRef.unary (.of main_while0b_call8_c_2 : StableHlo.TRef sig ⟨S_, .i32⟩) (.of main_while0b_call8_v6 : StableHlo.TRef sig ⟨S16x1024x1, .i32⟩) (broadcastInDim S16x1024x1 ![] bcast_S_S16x1024x1),
    StableHlo.TRef.binary (.of main_while0b_call8_v5 : StableHlo.TRef sig ⟨S16x1024x1, .i32⟩) (.of main_while0b_call8_v6 : StableHlo.TRef sig ⟨S16x1024x1, .i32⟩) (.of main_while0b_call8_v7 : StableHlo.TRef sig ⟨S16x1024x1, .i1⟩) (cmpi .sge),
    StableHlo.TRef.unary (.of main_while0b_call8_c_1 : StableHlo.TRef sig ⟨S1, .i32⟩) (.of main_while0b_call8_v8 : StableHlo.TRef sig ⟨S1x1x1, .i32⟩) (broadcastInDim S1x1x1 ![2] bcast_S1_S1x1x1_2),
    StableHlo.TRef.unary (.of main_while0b_call8_v8 : StableHlo.TRef sig ⟨S1x1x1, .i32⟩) (.of main_while0b_call8_v9 : StableHlo.TRef sig ⟨S16x1024x1, .i32⟩) (broadcastInDim S16x1024x1 ![0, 1, 2] bcast_S1x1x1_S16x1024x1_0_1_2),
    StableHlo.TRef.binary (.of main_while0b_call8_v5 : StableHlo.TRef sig ⟨S16x1024x1, .i32⟩) (.of main_while0b_call8_v9 : StableHlo.TRef sig ⟨S16x1024x1, .i32⟩) (.of main_while0b_call8_v10 : StableHlo.TRef sig ⟨S16x1024x1, .i1⟩) (cmpi .sle),
    StableHlo.TRef.binary (.of main_while0b_call8_v7 : StableHlo.TRef sig ⟨S16x1024x1, .i1⟩) (.of main_while0b_call8_v10 : StableHlo.TRef sig ⟨S16x1024x1, .i1⟩) (.of main_while0b_call8_v11 : StableHlo.TRef sig ⟨S16x1024x1, .i1⟩) andi,
    StableHlo.TRef.nullary (.of main_while0b_call8_c_3 : StableHlo.TRef sig ⟨S_, .i1⟩) (constantI S_ 1 1#1),
    StableHlo.TRef.binary (.of main_while0b_call8_v11 : StableHlo.TRef sig ⟨S16x1024x1, .i1⟩) (.of main_while0b_call8_c_3 : StableHlo.TRef sig ⟨S_, .i1⟩) (.of main_while0b_call8_v12 : StableHlo.TRef sig ⟨S16x1024, .i1⟩) (fun x v => Host.reduce IntOp.andi x v reducesTo_S16x1024x1_S16x1024_d2 h_S_),
    StableHlo.TRef.binary (.of main_while0b_v10 : StableHlo.TRef sig ⟨S1024x64, .f32⟩) (.of main_while0b_call8_v5 : StableHlo.TRef sig ⟨S16x1024x1, .i32⟩) (.of main_while0b_call8_v13 : StableHlo.TRef sig ⟨S16x1024x64, .f32⟩) (fun x i => Host.gather gather_S1024x64_S16x1024x1_S16x1024x64_2_0_n_n_0_2_164 x i),
    StableHlo.TRef.unary (.of main_while0b_call8_v12 : StableHlo.TRef sig ⟨S16x1024, .i1⟩) (.of main_while0b_call8_v14 : StableHlo.TRef sig ⟨S16x1024x64, .i1⟩) (broadcastInDim S16x1024x64 ![0, 1] bcast_S16x1024_S16x1024x64_0_1),
    StableHlo.TRef.nullary (.of main_while0b_call8_cst : StableHlo.TRef sig ⟨S_, .f32⟩) (constant S_ .f32 0x7FC00000#32),
    StableHlo.TRef.unary (.of main_while0b_call8_cst : StableHlo.TRef sig ⟨S_, .f32⟩) (.of main_while0b_call8_v15 : StableHlo.TRef sig ⟨S16x1024x64, .f32⟩) (broadcastInDim S16x1024x64 ![] bcast_S_S16x1024x64),
    StableHlo.TRef.ternary (.of main_while0b_call8_v14 : StableHlo.TRef sig ⟨S16x1024x64, .i1⟩) (.of main_while0b_call8_v13 : StableHlo.TRef sig ⟨S16x1024x64, .f32⟩) (.of main_while0b_call8_v15 : StableHlo.TRef sig ⟨S16x1024x64, .f32⟩) (.of main_while0b_v60 : StableHlo.TRef sig ⟨S16x1024x64, .f32⟩) select ]

/-- Losses, output projection, residual and latent. -/
abbrev opsTail : List (HloOp τ sig (Elt F)) :=
  ( StableHlo.unary main_while0b_v60 main_while0b_v61 ((transpose S16x64x1024 [0, 2, 1] · transposes_S16x1024x64_S16x64x1024_0_2_1) : (⟨S16x1024x64, .f32⟩ : BufTy).Contents (Elt F) → (⟨S16x64x1024, .f32⟩ : BufTy).Contents (Elt F))
  :: StableHlo.binary main_while0b_v24 main_while0b_v61 main_while0b_v62 (subf : (⟨S16x64x1024, .f32⟩ : BufTy).Contents (Elt F) → (⟨S16x64x1024, .f32⟩ : BufTy).Contents (Elt F) → (⟨S16x64x1024, .f32⟩ : BufTy).Contents (Elt F))
  :: StableHlo.binary main_while0b_v62 main_while0b_v62 main_while0b_v63 (mulf : (⟨S16x64x1024, .f32⟩ : BufTy).Contents (Elt F) → (⟨S16x64x1024, .f32⟩ : BufTy).Contents (Elt F) → (⟨S16x64x1024, .f32⟩ : BufTy).Contents (Elt F))
  :: StableHlo.nullary main_while0b_cst_23 (constant S_ .f32 0x00000000#32)
  :: StableHlo.binary main_while0b_v63 main_while0b_cst_23 main_while0b_v64 ((fun x v => Host.reduceAdd x v reducesTo_S16x64x1024_S16_d1_2 h_S_) : (⟨S16x64x1024, .f32⟩ : BufTy).Contents (Elt F) → (⟨S_, .f32⟩ : BufTy).Contents (Elt F) → (⟨S16, .f32⟩ : BufTy).Contents (Elt F))
  :: StableHlo.nullary main_while0b_cst_24 (constant S_ .f32 0x47800000#32)
  :: StableHlo.unary main_while0b_cst_24 main_while0b_v65 (broadcastInDim S16 ![] bcast_S_S16 : (⟨S_, .f32⟩ : BufTy).Contents (Elt F) → (⟨S16, .f32⟩ : BufTy).Contents (Elt F))
  :: StableHlo.binary main_while0b_v64 main_while0b_v65 main_while0b_v66 (Host.divf : (⟨S16, .f32⟩ : BufTy).Contents (Elt F) → (⟨S16, .f32⟩ : BufTy).Contents (Elt F) → (⟨S16, .f32⟩ : BufTy).Contents (Elt F))
  :: StableHlo.binary main_while0b_v61 main_while0b_v24 main_while0b_v67 (subf : (⟨S16x64x1024, .f32⟩ : BufTy).Contents (Elt F) → (⟨S16x64x1024, .f32⟩ : BufTy).Contents (Elt F) → (⟨S16x64x1024, .f32⟩ : BufTy).Contents (Elt F))
  :: StableHlo.binary main_while0b_v67 main_while0b_v67 main_while0b_v68 (mulf : (⟨S16x64x1024, .f32⟩ : BufTy).Contents (Elt F) → (⟨S16x64x1024, .f32⟩ : BufTy).Contents (Elt F) → (⟨S16x64x1024, .f32⟩ : BufTy).Contents (Elt F))
  :: StableHlo.nullary main_while0b_cst_25 (constant S_ .f32 0x00000000#32)
  :: StableHlo.binary main_while0b_v68 main_while0b_cst_25 main_while0b_v69 ((fun x v => Host.reduceAdd x v reducesTo_S16x64x1024_S16_d1_2 h_S_) : (⟨S16x64x1024, .f32⟩ : BufTy).Contents (Elt F) → (⟨S_, .f32⟩ : BufTy).Contents (Elt F) → (⟨S16, .f32⟩ : BufTy).Contents (Elt F))
  :: StableHlo.nullary main_while0b_cst_26 (constant S_ .f32 0x47800000#32)
  :: StableHlo.unary main_while0b_cst_26 main_while0b_v70 (broadcastInDim S16 ![] bcast_S_S16 : (⟨S_, .f32⟩ : BufTy).Contents (Elt F) → (⟨S16, .f32⟩ : BufTy).Contents (Elt F))
  :: StableHlo.binary main_while0b_v69 main_while0b_v70 main_while0b_v71 (Host.divf : (⟨S16, .f32⟩ : BufTy).Contents (Elt F) → (⟨S16, .f32⟩ : BufTy).Contents (Elt F) → (⟨S16, .f32⟩ : BufTy).Contents (Elt F))
  :: StableHlo.binary main_while0b_v61 main_while0b_v24 main_while0b_v72 (subf : (⟨S16x64x1024, .f32⟩ : BufTy).Contents (Elt F) → (⟨S16x64x1024, .f32⟩ : BufTy).Contents (Elt F) → (⟨S16x64x1024, .f32⟩ : BufTy).Contents (Elt F))
  :: StableHlo.binary main_while0b_v24 main_while0b_v72 main_while0b_v73 (addf : (⟨S16x64x1024, .f32⟩ : BufTy).Contents (Elt F) → (⟨S16x64x1024, .f32⟩ : BufTy).Contents (Elt F) → (⟨S16x64x1024, .f32⟩ : BufTy).Contents (Elt F))
  :: StableHlo.binary main_while0b_v7 main_while0b_v7 main_while0b_v74 (mulf : (⟨S1024x64, .f32⟩ : BufTy).Contents (Elt F) → (⟨S1024x64, .f32⟩ : BufTy).Contents (Elt F) → (⟨S1024x64, .f32⟩ : BufTy).Contents (Elt F))
  :: StableHlo.nullary main_while0b_cst_27 (constant S_ .f32 0x00000000#32)
  :: StableHlo.binary main_while0b_v74 main_while0b_cst_27 main_while0b_v75 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F))
  :: StableHlo.unary main_while0b_v75 main_while0b_v76 (broadcastInDim S1024x1 ![0] bcast_S1024_S1024x1_0 : (⟨S1024, .f32⟩ : BufTy).Contents (Elt F) → (⟨S1024x1, .f32⟩ : BufTy).Contents (Elt F))
  :: StableHlo.unary main_while0b_v76 main_while0b_v77 (Host.sqrt : (⟨S1024x1, .f32⟩ : BufTy).Contents (Elt F) → (⟨S1024x1, .f32⟩ : BufTy).Contents (Elt F))
  :: StableHlo.unary main_while0b_v8 main_while0b_v78 (broadcastInDim S1024x1 ![0] bcast_S1024_S1024x1_0 : (⟨S1024, .f32⟩ : BufTy).Contents (Elt F) → (⟨S1024x1, .f32⟩ : BufTy).Contents (Elt F))
  :: StableHlo.unary main_while0b_v78 main_while0b_v79 (broadcastInDim S1024x64 ![0, 1] bcast_S1024x1_S1024x64_0_1 : (⟨S1024x1, .f32⟩ : BufTy).Contents (Elt F) → (⟨S1024x64, .f32⟩ : BufTy).Contents (Elt F))
  :: StableHlo.binary main_while0b_v79 main_while0b_v7 main_while0b_v80 (mulf : (⟨S1024x64, .f32⟩ : BufTy).Contents (Elt F) → (⟨S1024x64, .f32⟩ : BufTy).Contents (Elt F) → (⟨S1024x64, .f32⟩ : BufTy).Contents (Elt F))
  :: StableHlo.unary main_while0b_v77 main_while0b_v81 (broadcastInDim S1024x64 ![0, 1] bcast_S1024x1_S1024x64_0_1 : (⟨S1024x1, .f32⟩ : BufTy).Contents (Elt F) → (⟨S1024x64, .f32⟩ : BufTy).Contents (Elt F))
  :: StableHlo.binary main_while0b_v80 main_while0b_v81 main_while0b_v82 (Host.divf : (⟨S1024x64, .f32⟩ : BufTy).Contents (Elt F) → (⟨S1024x64, .f32⟩ : BufTy).Contents (Elt F) → (⟨S1024x64, .f32⟩ : BufTy).Contents (Elt F))
  :: StableHlo.binary main_while0b_v73 main_while0b_v82 main_while0b_v83 ((fun l r => Host.dotGeneral dot_S16x64x1024_S1024x64_S16x1024x1024_1_1_02_0_n_n none l r) : (⟨S16x64x1024, .f32⟩ : BufTy).Contents (Elt F) → (⟨S1024x64, .f32⟩ : BufTy).Contents (Elt F) → (⟨S16x1024x1024, .f32⟩ : BufTy).Contents (Elt F))
  :: StableHlo.unary main_while0b_v83 main_while0b_v84 ((transpose S16x1024x1024 [0, 2, 1] · transposes_S16x1024x1024_S16x1024x1024_0_2_1) : (⟨S16x1024x1024, .f32⟩ : BufTy).Contents (Elt F) → (⟨S16x1024x1024, .f32⟩ : BufTy).Contents (Elt F))
  :: StableHlo.unary main_while0b_v9 main_while0b_v85 (broadcastInDim S1x1024x1 ![1] bcast_S1024_S1x1024x1_1 : (⟨S1024, .f32⟩ : BufTy).Contents (Elt F) → (⟨S1x1024x1, .f32⟩ : BufTy).Contents (Elt F))
  :: StableHlo.unary main_while0b_v85 main_while0b_v86 (broadcastInDim S16x1024x1024 ![0, 1, 2] bcast_S1x1024x1_S16x1024x1024_0_1_2 : (⟨S1x1024x1, .f32⟩ : BufTy).Contents (Elt F) → (⟨S16x1024x1024, .f32⟩ : BufTy).Contents (Elt F))
  :: StableHlo.binary main_while0b_v84 main_while0b_v86 main_while0b_v87 (addf : (⟨S16x1024x1024, .f32⟩ : BufTy).Contents (Elt F) → (⟨S16x1024x1024, .f32⟩ : BufTy).Contents (Elt F) → (⟨S16x1024x1024, .f32⟩ : BufTy).Contents (Elt F))
  :: StableHlo.nullary main_while0b_cst_28 (constant S_ .f32 0x3F800000#32)
  :: StableHlo.unary main_while0b_cst_28 main_while0b_v88 (broadcastInDim S16 ![] bcast_S_S16 : (⟨S_, .f32⟩ : BufTy).Contents (Elt F) → (⟨S16, .f32⟩ : BufTy).Contents (Elt F))
  :: StableHlo.unary main_while0b_v88 main_while0b_v89 (broadcastInDim S16x1x1 ![0] bcast_S16_S16x1x1_0 : (⟨S16, .f32⟩ : BufTy).Contents (Elt F) → (⟨S16x1x1, .f32⟩ : BufTy).Contents (Elt F))
  :: StableHlo.unary main_while0b_v89 main_while0b_v90 (broadcastInDim S16x1024x1024 ![0, 1, 2] bcast_S16x1x1_S16x1024x1024_0_1_2 : (⟨S16x1x1, .f32⟩ : BufTy).Contents (Elt F) → (⟨S16x1024x1024, .f32⟩ : BufTy).Contents (Elt F))
  :: StableHlo.binary main_while0b_v87 main_while0b_v90 main_while0b_v91 (mulf : (⟨S16x1024x1024, .f32⟩ : BufTy).Contents (Elt F) → (⟨S16x1024x1024, .f32⟩ : BufTy).Contents (Elt F) → (⟨S16x1024x1024, .f32⟩ : BufTy).Contents (Elt F))
  :: StableHlo.binary main_v2_9 main_while0b_v91 main_while0b_v92 (addf : (⟨S16x1024x1024, .f32⟩ : BufTy).Contents (Elt F) → (⟨S16x1024x1024, .f32⟩ : BufTy).Contents (Elt F) → (⟨S16x1024x1024, .f32⟩ : BufTy).Contents (Elt F))
  :: StableHlo.binary main_v2_8 main_while0b_v87 main_while0b_v93 (subf : (⟨S16x1024x1024, .f32⟩ : BufTy).Contents (Elt F) → (⟨S16x1024x1024, .f32⟩ : BufTy).Contents (Elt F) → (⟨S16x1024x1024, .f32⟩ : BufTy).Contents (Elt F))
  :: StableHlo.binary main_while0b_v66 main_while0b_v88 main_while0b_v94 (mulf : (⟨S16, .f32⟩ : BufTy).Contents (Elt F) → (⟨S16, .f32⟩ : BufTy).Contents (Elt F) → (⟨S16, .f32⟩ : BufTy).Contents (Elt F))
  :: StableHlo.nullary main_while0b_cst_29 (constant S_ .f32 0x00000000#32)
  :: StableHlo.binary main_while0b_v94 main_while0b_cst_29 main_while0b_v95 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F))
  :: StableHlo.nullary main_while0b_cst_30 (constant S_ .f32 0x41800000#32)
  :: StableHlo.binary main_while0b_v95 main_while0b_cst_30 main_while0b_v96 (Host.divf : (⟨S_, .f32⟩ : BufTy).Contents (Elt F) → (⟨S_, .f32⟩ : BufTy).Contents (Elt F) → (⟨S_, .f32⟩ : BufTy).Contents (Elt F))
  :: StableHlo.binary main_v2_10 main_while0b_v96 main_while0b_v97 (addf : (⟨S_, .f32⟩ : BufTy).Contents (Elt F) → (⟨S_, .f32⟩ : BufTy).Contents (Elt F) → (⟨S_, .f32⟩ : BufTy).Contents (Elt F))
  :: StableHlo.binary main_while0b_v71 main_while0b_v88 main_while0b_v98 (mulf : (⟨S16, .f32⟩ : BufTy).Contents (Elt F) → (⟨S16, .f32⟩ : BufTy).Contents (Elt F) → (⟨S16, .f32⟩ : BufTy).Contents (Elt F))
  :: StableHlo.nullary main_while0b_cst_31 (constant S_ .f32 0x00000000#32)
  :: StableHlo.binary main_while0b_v98 main_while0b_cst_31 main_while0b_v99 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F))
  :: StableHlo.nullary main_while0b_cst_32 (constant S_ .f32 0x41800000#32)
  :: StableHlo.binary main_while0b_v99 main_while0b_cst_32 main_while0b_v100 (Host.divf : (⟨S_, .f32⟩ : BufTy).Contents (Elt F) → (⟨S_, .f32⟩ : BufTy).Contents (Elt F) → (⟨S_, .f32⟩ : BufTy).Contents (Elt F))
  :: StableHlo.binary main_v2_11 main_while0b_v100 main_while0b_v101 (addf : (⟨S_, .f32⟩ : BufTy).Contents (Elt F) → (⟨S_, .f32⟩ : BufTy).Contents (Elt F) → (⟨S_, .f32⟩ : BufTy).Contents (Elt F))
  :: [] )

/-- The codes stored in the stack. -/
abbrev opsCode : List (HloOp τ sig (Elt F)) :=
  [ StableHlo.TRef.unary (.of main_while0b_v59 : StableHlo.TRef sig ⟨S16x1024, .i32⟩) (.of main_while0b_call9_v0 : StableHlo.TRef sig ⟨S1x16x1024, .i32⟩) (broadcastInDim S1x16x1024 ![1, 2] bcast_S16x1024_S1x16x1024_1_2),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.binaryIndexed (.of main_v2_12 : StableHlo.TRef sig ⟨S8x16x1024, .i32⟩) (.of main_while0b_call9_v0 : StableHlo.TRef sig ⟨S1x16x1024, .i32⟩) ![(.of main_v2_7 : StableHlo.TRef sig ⟨S_, .i32⟩), (.of main_while0b_call9_c : StableHlo.TRef sig ⟨S_, .i32⟩), (.of main_while0b_call9_c_0 : StableHlo.TRef sig ⟨S_, .i32⟩)] (.of main_while0b_v102 : StableHlo.TRef sig ⟨S8x16x1024, .i32⟩) (fun x u i => Host.dynamicUpdateSlice x u (fun k => (i k (Shape.Idx.first h_S_)).toInt) updateFits_S8x16x1024_S1x16x1024) ]

/-- The carried values for the next trip. -/
abbrev opsNext : List (HloOp τ sig (Elt F)) :=
  [ StableHlo.nullary main_while0b_c_33 (constantI S_ 32 1#32),
    StableHlo.binary main_v2_7 main_while0b_c_33 main_while0b_v103 (addi : (⟨S_, .i32⟩ : BufTy).Contents (Elt F) → (⟨S_, .i32⟩ : BufTy).Contents (Elt F) → (⟨S_, .i32⟩ : BufTy).Contents (Elt F)),
    StableHlo.unary main_while0b_v103 main_v2_7 id,
    StableHlo.unary main_while0b_v93 main_v2_8 id,
    StableHlo.unary main_while0b_v92 main_v2_9 id,
    StableHlo.unary main_while0b_v97 main_v2_10 id,
    StableHlo.unary main_while0b_v101 main_v2_11 id,
    StableHlo.unary main_while0b_v102 main_v2_12 id ]

/-- The program is its items one after the other. -/
theorem main_chain (c : Dev nD) : main (F := F) c = (Pipeline.chain
  [ StableHlo.seq opsEntry,
    HostLoop.enter 0,
    StableHlo.seq opsExit ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop body is its items one after the other. -/
theorem while0_body_chain : main_while0_body (F := F) = (Pipeline.chain
  [ StableHlo.seq opsWin,
    StableHlo.seq opsGin,
    StableHlo.seq opsBin,
    StableHlo.seq opsWout,
    StableHlo.seq opsGout,
    StableHlo.seq opsBout,
    StableHlo.seq opsBook,
    StableHlo.seq opsScore,
    StableHlo.seq opsArg,
    StableHlo.seq opsIdx,
    StableHlo.seq opsTake,
    StableHlo.seq opsTail,
    StableHlo.seq opsCode,
    StableHlo.seq opsNext ] : Prog (TpuEff nD τ sig (Elt F) (HostLoop.Sig (Pipeline.Sig Λ₀ (Fin 0) fun p => (pcfgs (F := F) p).Adm) 1) .tc) PUnit) := by
  rewrite [Pipeline.chain_cons, Pipeline.chain_cons, Pipeline.chain_cons, Pipeline.chain_cons, Pipeline.chain_cons, Pipeline.chain_cons, Pipeline.chain_cons, StableHlo.chain_seq_cons, Pipeline.chain_cons, StableHlo.chain_seq_cons, Pipeline.chain_cons, StableHlo.chain_seq_cons, Pipeline.chain_cons, StableHlo.chain_seq_cons]
  chain_rfl

/-- The condition: the bound, and the counter compared with it. -/
abbrev condOps : List (HloOp τ sig (Elt F)) :=
  [ StableHlo.nullary main_while0c_c_15 (constantI S_ 32 8#32),
    StableHlo.binary main_v2_7 main_while0c_c_15 main_while0c_v4 (cmpi .slt) ]

/-- The items before the loop, of its body, and after it. -/
abbrev preI : List (List (HloOp τ sig (Elt F))) := [opsEntry]
abbrev bodyI : List (List (HloOp τ sig (Elt F))) :=
  [opsWin, opsGin, opsBin, opsWout, opsGout, opsBout, opsBook, opsScore, opsArg, opsIdx, opsTake, opsTail, opsCode, opsNext]
abbrev postI : List (List (HloOp τ sig (Elt F))) := [opsExit]

theorem plain_op {op : HloOp τ sig (Elt F)} {ops : List (HloOp τ sig (Elt F))} {rest : List (List (HloOp τ sig (Elt F)))}
    (hb : op.bufs ⊆ tcRefs τ sig) (hf : op.fresh = ∅) (h : Plain (ops :: rest)) : Plain ((op :: ops) :: rest) := by
  intro o ho
  rcases List.mem_cons.mp ho with rfl | ho
  · have h1 := h ops (List.mem_cons_self ..)
    exact ⟨fun p hp => (List.mem_cons.mp hp).elim (fun e => e ▸ hb) (h1.1 p),
      fun p hp => (List.mem_cons.mp hp).elim (fun e => e ▸ hf) (h1.2 p)⟩
  · exact h o (List.mem_cons_of_mem _ ho)

theorem plain_skip {rest : List (List (HloOp τ sig (Elt F)))} (h : Plain rest) :
    Plain (([] : List (HloOp τ sig (Elt F))) :: rest) := by
  intro o ho
  rcases List.mem_cons.mp ho with rfl | ho
  · exact ⟨fun _ hp => absurd hp List.not_mem_nil, fun _ hp => absurd hp List.not_mem_nil⟩
  · exact h o ho

/-- Every item touches its program's own buffers only and makes none. -/
theorem plain_all : Plain (preI (F := F)) ∧ Plain (bodyI (F := F)) ∧ Plain (postI (F := F)) := by
  refine ⟨?_, ?_, ?_⟩
  all_goals
    repeat' first
      | exact Plain.nil
      | refine plain_skip ?_
      | refine plain_op ?_ rfl ?_
  all_goals with_reducible first
    | exact unary_bufs_sub .. | exact binary_bufs_sub .. | exact nullary_bufs_sub .. | exact ternary_bufs_sub ..
    | exact reshape_bufs_sub .. | exact quaternary_bufs_sub .. | exact unaryIndexed_bufs_sub ..
    | exact binaryIndexed_bufs_sub ..

/-- One trip leaves the buffers of the arguments as they were and takes the counter one step on. -/
theorem trip_keep (V : Valuation τ sig (Elt F)) (r : Ref sig .tc)
    (h : r = main_arg0 ∨ r = main_arg1 ∨ r = main_arg2 ∨ r = main_arg3 ∨ r = main_arg4 ∨ r = main_arg5 ∨ r = main_arg6 ∨
      r = main_arg7 ∨ r = main_v2_0 ∨ r = main_v2_1 ∨ r = main_v2_2 ∨ r = main_v2_3 ∨ r = main_v2_4 ∨ r = main_v2_5 ∨
      r = main_v2_6) :
    afterL bodyI (after condOps V) (Proc.devRef .tc r) = V (Proc.devRef .tc r) := by
  simp only [afterL_cons, afterL_nil]
  rcases h with h | h | h | h | h | h | h | h | h | h | h | h | h | h | h <;> subst h <;> after_reads_simp

theorem trip_ctr (V : Valuation τ sig (Elt F)) :
    afterL bodyI (after condOps V) (Proc.devRef .tc main_v2_7) = addi (V (Proc.devRef .tc main_v2_7)) (constantI S_ 32 1#32) := by
  simp only [afterL_cons, afterL_nil]
  after_reads_simp
  rfl

variable (m : (ℓ : Loc nD τ sig) → Buf (Elt F) ℓ) (ρ : Dev nD → PrngReg)

/-- The contents before the `k`-th run of the condition. -/
abbrev atK (k : ℕ) (c : Dev nD) : Valuation τ sig (Elt F) := atTrip condOps bodyI (entryContents preI m) k c

/-- The counter before the loop. -/
theorem ctr_entry (c : Dev nD) : entryContents preI m c (Proc.devRef .tc main_v2_7) = fun _ => (0#32 : BitVec 32) := by
  simp only [entryContents, afterL_cons, afterL_nil]
  after_reads_simp
  rfl

/-- The counter before the `k`-th run of the condition. -/
theorem atK_ctr (c : Dev nD) : ∀ k, atK m k c (Proc.devRef .tc main_v2_7) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, trip_ctr, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_7 HostLoop.idx0)
        (HloOp.result _ (atK m k c) main_while0c_c_15 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps plain_all.1 plain_all.2.1 plain_all.2.2
    (fun c => by rw [main_chain]; rfl) (by rw [while0_body_chain]; rfl) 8 m ρ (cond_spec m)

/-- What holds of the arguments' buffers at the loop's entry holds at the end. -/
theorem keep_arg (c : Dev nD) (r : Ref sig .tc)
    (h : r = main_arg0 ∨ r = main_arg1 ∨ r = main_arg2 ∨ r = main_arg3 ∨ r = main_arg4 ∨ r = main_arg5 ∨ r = main_arg6 ∨
      r = main_arg7) :
    finalContents condOps preI bodyI postI 8 m c (Proc.devRef .tc r) = m ((c.tc : Thread nD τ).loc r) := by
  have hk : ∀ k, atK m k c (Proc.devRef .tc r) = entryContents preI m c (Proc.devRef .tc r) := by
    intro k
    induction k with
    | zero => rfl
    | succ k ih =>
      rw [show atK m (k + 1) c = afterL bodyI (after condOps (atK m k c)) from rfl,
        trip_keep _ r (by rcases h with h | h | h | h | h | h | h | h <;> simp only [h, true_or, or_true]), ih]
  have hl : afterL postI (after condOps (atK m 8 c)) (Proc.devRef .tc r) = atK m 8 c (Proc.devRef .tc r) := by
    simp only [afterL_cons, afterL_nil]
    rcases h with h | h | h | h | h | h | h | h <;> subst h <;> after_reads_simp
  have he : entryContents preI m c (Proc.devRef .tc r) = m ((c.tc : Thread nD τ).loc r) := by
    simp only [entryContents, afterL_cons, afterL_nil]
    rcases h with h | h | h | h | h | h | h | h <;> subst h <;> after_reads_simp <;> rfl
  exact hl.trans ((hk 8).trans he)

/-- The frame of the reference: the arguments end as they were and every counter is zero. -/
theorem frame : θ_run (defs (F := F)) (onTc (τ := τ) (main (F := F))) ⟨m, fun _ => 0, ρ⟩
    (fun r => (r.2.sem = fun _ => 0) ∧ ∀ (c : Dev nD) (b : Ref sig .tc),
      (b = main_arg0 ∨ b = main_arg1 ∨ b = main_arg2 ∨ b = main_arg3 ∨ b = main_arg4 ∨ b = main_arg5 ∨ b = main_arg6 ∨
      b = main_arg7) → r.2.mem ((c.tc : Thread nD τ).loc b) = m ((c.tc : Thread nD τ).loc b)) :=
  θ_run_mono (run_fold m ρ) fun r h => ⟨sem_eq_zero_of_no_sems (by decide) _, fun c b hb =>
    (h c b (by rcases hb with h | h | h | h | h | h | h | h <;> subst h <;> rfl)).trans (keep_arg m c b hb)⟩

end Cert.RefRun

end
-- ==== Proof.RefTensor.lean ====
/- What one trip of the reference's loop computes, as functions of the arrays it reads, and those functions at an index. -/
module

public import proofs.«01_k».proof.Proof.Gen.ReferenceIdeal
public import proofs.«01_k».proof.Proof.Layers
public import Idealize.ShloMosaic.Lib.Pointwise
public import Idealize.ShloMosaic.Lib.IdealHost
public import Idealize.ShloMosaic.Lib.DynamicIndex
public import Idealize.ShloMosaic.Lib.ValueIdx

@[expose] public section

set_option maxRecDepth 16384

noncomputable section

namespace Cert.RefTensor

open Idealize.ShloMosaic
open Cert.ReferenceIdeal Cert.ReferenceIdeal.Gen

/-- The projected batch. -/
def zeT (w : FVec Ideal S64x1024 .f32) (g b : FVec Ideal S64 .f32) (R : FVec Ideal S16x1024x1024 .f32) :
    FVec Ideal S16x64x1024 .f32 :=
  addf (transpose S16x64x1024 [0, 2, 1] (Host.dotGeneral dot_S16x1024x1024_S64x1024_S16x1024x64_1_1_02_0_n_n none R
      (Host.divf (mulf (broadcastInDim S64x1024 ![0, 1] bcast_S64x1_S64x1024_0_1 (broadcastInDim S64x1 ![0] bcast_S64_S64x1_0 g)) w)
        (broadcastInDim S64x1024 ![0, 1] bcast_S64x1_S64x1024_0_1 (Host.sqrt (broadcastInDim S64x1 ![0] bcast_S64_S64x1_0
          (Host.reduceAdd (mulf w w) (constant S_ .f32 0x00000000#32) reducesTo_S64x1024_S64_d1 h_S_))))))
      transposes_S16x1024x64_S16x64x1024_0_2_1)
    (broadcastInDim S16x64x1024 ![0, 1, 2] bcast_S1x64x1_S16x64x1024_0_1_2 (broadcastInDim S1x64x1 ![1] bcast_S64_S1x64x1_1 b))

theorem zeT_at (w : FVec Ideal S64x1024 .f32) (g b : FVec Ideal S64 .f32) (R : FVec Ideal S16x1024x1024 .f32)
    (i : Fin 16) (o : Fin 64) (t : Fin 1024) :
    zeT w g b R (ix3 i o t)
      = (∑ c, R (ix3 i c t) * Spec.wn (fun o c => w (ix2 o c)) (fun o => g (ix1 o)) o c) + b (ix1 o) := by
  pointwise [zeT, Spec.wn]

/-- The columns of the batch, one row each, divided by their length, which is bounded below. -/
def znT (z : FVec Ideal S16x64x1024 .f32) : FVec Ideal S16384x64 .f32 :=
  Host.divf (shapeCast S16384x64 (transpose S16x1024x64 [0, 2, 1] z transposes_S16x64x1024_S16x1024x64_0_2_1) shapeCasts_S16x1024x64_S16384x64)
    (broadcastInDim S16384x64 ![0, 1] bcast_S16384x1_S16384x64_0_1 (maximumf (Host.sqrt (broadcastInDim S16384x1 ![0] bcast_S16384_S16384x1_0
        (Host.reduceAdd (mulf (shapeCast S16384x64 (transpose S16x1024x64 [0, 2, 1] z transposes_S16x64x1024_S16x1024x64_0_2_1) shapeCasts_S16x1024x64_S16384x64)
          (shapeCast S16384x64 (transpose S16x1024x64 [0, 2, 1] z transposes_S16x64x1024_S16x1024x64_0_2_1) shapeCasts_S16x1024x64_S16384x64))
          (constant S_ .f32 0x00000000#32) reducesTo_S16384x64_S16384_d1 h_S_)))
      (broadcastInDim S16384x1 ![] bcast_S_S16384x1 (constant S_ .f32 0x2B8CBCCC#32))))

/-- The row of token `t` of batch `i`. -/
def row (i : Fin 16) (t : Fin 1024) : Fin 16384 := ⟨i.val * 1024 + t.val, by omega⟩

theorem row_div (i : Fin 16) (t : Fin 1024) : (row i t).val / 1024 = i.val := by
  simp only [row]; omega

theorem row_mod (i : Fin 16) (t : Fin 1024) : (row i t).val % 1024 = t.val := by
  simp only [row]; omega

theorem znT_at (z : FVec Ideal S16x64x1024 .f32) (i : Fin 16) (t : Fin 1024) (o : Fin 64) :
    znT z (ix2 (row i t) o)
      = Ideal.div (z (ix3 i o t)) (max (Ideal.sqrt (∑ o, z (ix3 i o t) * z (ix3 i o t))) (Ideal.ofBits .f32 0x2B8CBCCC#32)) := by
  pointwise [znT]
  simp only [row_div, row_mod, Fin.eta]

/-- The codebook rows divided by their length, which is bounded below. -/
def unT (e : FVec Ideal S1024x64 .f32) : FVec Ideal S1024x64 .f32 :=
  Host.divf e (broadcastInDim S1024x64 ![0, 1] bcast_S1024x1_S1024x64_0_1 (maximumf (Host.sqrt (broadcastInDim S1024x1 ![0] bcast_S1024_S1024x1_0
      (Host.reduceAdd (mulf e e) (constant S_ .f32 0x00000000#32) reducesTo_S1024x64_S1024_d1 h_S_)))
    (broadcastInDim S1024x1 ![] bcast_S_S1024x1 (constant S_ .f32 0x2B8CBCCC#32))))

theorem unT_at (e : FVec Ideal S1024x64 .f32) (k : Fin 1024) (o : Fin 64) :
    unT e (ix2 k o) = Spec.un (fun k o => e (ix2 k o)) k o := by
  pointwise [unT, Spec.un]

/-- The negated distances of the columns to the codebook rows. -/
def negT (zn : FVec Ideal S16384x64 .f32) (cn : FVec Ideal S1024x64 .f32) : FVec Ideal S16384x1024 .f32 :=
  Host.negf (addf (subf (broadcastInDim S16384x1024 ![0, 1] bcast_S16384x1_S16384x1024_0_1 (broadcastInDim S16384x1 ![0] bcast_S16384_S16384x1_0
        (Host.reduceAdd (mulf zn zn) (constant S_ .f32 0x00000000#32) reducesTo_S16384x64_S16384_d1 h_S_)))
      (Host.dotGeneral dot_S16384x64_S64x1024_S16384x1024_1_0_0_1_n_n none
        (mulf (broadcastInDim S16384x64 ![] bcast_S_S16384x64 (constant S_ .f32 0x40000000#32)) zn)
        (transpose S64x1024 [1, 0] cn transposes_S1024x64_S64x1024_1_0)))
    (broadcastInDim S16384x1024 ![0, 1] bcast_S1x1024_S16384x1024_0_1 (broadcastInDim S1x1024 ![1] bcast_S1024_S1x1024_1
      (Host.reduceAdd (mulf cn cn) (constant S_ .f32 0x00000000#32) reducesTo_S1024x64_S1024_d1 h_S_))))

theorem negT_at (zn : FVec Ideal S16384x64 .f32) (cn : FVec Ideal S1024x64 .f32) (n : Fin 16384) (k : Fin 1024) :
    negT zn cn (ix2 n k)
      = -(((∑ o, zn (ix2 n o) * zn (ix2 n o)) - ∑ o, Ideal.ofBits .f32 0x40000000#32 * zn (ix2 n o) * cn (ix2 k o))
          + ∑ o, cn (ix2 k o) * cn (ix2 k o)) := by
  pointwise [negT]

/-- The output of the layer. -/
def outT (z : FVec Ideal S16x64x1024 .f32) (q : FVec Ideal S16x64x1024 .f32) (w : FVec Ideal S1024x64 .f32) (g b : FVec Ideal S1024 .f32) :
    FVec Ideal S16x1024x1024 .f32 :=
  addf (transpose S16x1024x1024 [0, 2, 1] (Host.dotGeneral dot_S16x64x1024_S1024x64_S16x1024x1024_1_1_02_0_n_n none
      (addf z (subf q z))
      (Host.divf (mulf (broadcastInDim S1024x64 ![0, 1] bcast_S1024x1_S1024x64_0_1 (broadcastInDim S1024x1 ![0] bcast_S1024_S1024x1_0 g)) w)
        (broadcastInDim S1024x64 ![0, 1] bcast_S1024x1_S1024x64_0_1 (Host.sqrt (broadcastInDim S1024x1 ![0] bcast_S1024_S1024x1_0
          (Host.reduceAdd (mulf w w) (constant S_ .f32 0x00000000#32) reducesTo_S1024x64_S1024_d1 h_S_))))))
      transposes_S16x1024x1024_S16x1024x1024_0_2_1)
    (broadcastInDim S16x1024x1024 ![0, 1, 2] bcast_S1x1024x1_S16x1024x1024_0_1_2 (broadcastInDim S1x1024x1 ![1] bcast_S1024_S1x1024x1_1 b))

theorem outT_at (z q : FVec Ideal S16x64x1024 .f32) (w : FVec Ideal S1024x64 .f32) (g b : FVec Ideal S1024 .f32)
    (i : Fin 16) (d t : Fin 1024) :
    outT z q w g b (ix3 i d t)
      = (∑ o, (z (ix3 i o t) + (q (ix3 i o t) - z (ix3 i o t))) * Spec.wn (fun d o => w (ix2 d o)) (fun d => g (ix1 d)) d o) + b (ix1 d) := by
  pointwise [outT, Spec.wn]

/-- The latent one layer on. -/
def latT (L o : FVec Ideal S16x1024x1024 .f32) : FVec Ideal S16x1024x1024 .f32 :=
  addf L (mulf o (broadcastInDim S16x1024x1024 ![0, 1, 2] bcast_S16x1x1_S16x1024x1024_0_1_2
    (broadcastInDim S16x1x1 ![0] bcast_S16_S16x1x1_0 (broadcastInDim S16 ![] bcast_S_S16 (constant S_ .f32 0x3F800000#32)))))

theorem latT_at (L o : FVec Ideal S16x1024x1024 .f32) (i : Fin 16) (d t : Fin 1024) :
    latT L o (ix3 i d t) = L (ix3 i d t) + o (ix3 i d t) * Ideal.ofBits .f32 0x3F800000#32 := by
  pointwise [latT]

/-- A loss one layer on: the squared differences averaged over a batch, then over the batches. -/
def lossT (l : FVec Ideal S_ .f32) (x y : FVec Ideal S16x64x1024 .f32) : FVec Ideal S_ .f32 :=
  addf l (Host.divf (Host.reduceAdd (mulf (Host.divf (Host.reduceAdd (mulf (subf x y) (subf x y)) (constant S_ .f32 0x00000000#32)
        reducesTo_S16x64x1024_S16_d1_2 h_S_) (broadcastInDim S16 ![] bcast_S_S16 (constant S_ .f32 0x47800000#32)))
      (broadcastInDim S16 ![] bcast_S_S16 (constant S_ .f32 0x3F800000#32)))
    (constant S_ .f32 0x00000000#32) reducesTo_S16_S_d0 h_S_) (constant S_ .f32 0x41800000#32))

theorem lossT_at (l : FVec Ideal S_ .f32) (x y : FVec Ideal S16x64x1024 .f32) (j : S_.Idx) :
    lossT l x y j = l j + Ideal.div (∑ i, Ideal.div (∑ o, ∑ t, (x (ix3 i o t) - y (ix3 i o t)) * (x (ix3 i o t) - y (ix3 i o t)))
      (Ideal.ofBits .f32 0x47800000#32) * Ideal.ofBits .f32 0x3F800000#32) (Ideal.ofBits .f32 0x41800000#32) := by
  pointwise [lossT]

end Cert.RefTensor
end
-- ==== Proof.RefArg.lean ====
/- The row of greatest value and the look-up of a row, as the reference computes them. -/
module

public import proofs.«01_k».proof.Proof.RefTensor

@[expose] public section

set_option maxRecDepth 16384

noncomputable section

namespace Cert.RefTensor

open Idealize.ShloMosaic
open Cert.ReferenceIdeal Cert.ReferenceIdeal.Gen

/-- `p` does not beat `r`: a smaller value, or an equal one at an index that is not smaller. -/
def Under (p r : EReal × BitVec 32) : Prop := p.1 < r.1 ∨ (p.1 = r.1 ∧ r.2.toInt ≤ p.2.toInt)

theorem Under.refl (p : EReal × BitVec 32) : Under p p := Or.inr ⟨rfl, le_refl _⟩

theorem Under.trans {p q r : EReal × BitVec 32} (h : Under p q) (h' : Under q r) : Under p r := by
  rcases h with h | ⟨h, k⟩
  · rcases h' with h' | ⟨h', _⟩
    · exact Or.inl (h.trans h')
    · exact Or.inl (h' ▸ h)
  · rcases h' with h' | ⟨h', k'⟩
    · exact Or.inl (h ▸ h')
    · exact Or.inr ⟨h.trans h', k'.trans k⟩

/-- The reducer returns one of its two pairs, which the other does not beat. -/
theorem reducer_spec (a b : EReal × BitVec 32) :
    (reducer_argmax_f32_i32 (F := Ideal) a b = a ∨ reducer_argmax_f32_i32 (F := Ideal) a b = b)
      ∧ Under a (reducer_argmax_f32_i32 (F := Ideal) a b) ∧ Under b (reducer_argmax_f32_i32 (F := Ideal) a b) := by
  obtain ⟨x, i⟩ := a
  obtain ⟨y, j⟩ := b
  rcases lt_trichotomy x y with h | h | h
  · have e : reducer_argmax_f32_i32 (F := Ideal) (x, i) (y, j) = (y, j) := by
      simp [reducer_argmax_f32_i32, Ideal.cmpf_def, Ideal.cmp, not_lt.mpr h.le, h.ne, IntOp.ori, IntOp.andi, Scalar.select]
    rw [e]
    exact ⟨Or.inr rfl, Or.inl h, Under.refl _⟩
  · subst h
    by_cases hij : i.toInt < j.toInt
    · have e : reducer_argmax_f32_i32 (F := Ideal) (x, i) (x, j) = (x, i) := by
        simp [reducer_argmax_f32_i32, Ideal.cmpf_def, Ideal.cmp, IntOp.ori, IntOp.andi, IntOp.cmpi, Scalar.select, BitVec.slt, hij]
      rw [e]
      exact ⟨Or.inl rfl, Under.refl _, Or.inr ⟨rfl, hij.le⟩⟩
    · have e : reducer_argmax_f32_i32 (F := Ideal) (x, i) (x, j) = (x, j) := by
        simp [reducer_argmax_f32_i32, Ideal.cmpf_def, Ideal.cmp, IntOp.ori, IntOp.andi, IntOp.cmpi, Scalar.select, BitVec.slt, hij]
      rw [e]
      exact ⟨Or.inr rfl, Or.inr ⟨rfl, not_lt.mp hij⟩, Under.refl _⟩
  · have e : reducer_argmax_f32_i32 (F := Ideal) (x, i) (y, j) = (x, i) := by
      simp [reducer_argmax_f32_i32, Ideal.cmpf_def, Ideal.cmp, h, h.ne', IntOp.ori, IntOp.andi, Scalar.select]
    rw [e]
    exact ⟨Or.inl rfl, Under.refl _, Or.inl h⟩

/-- The reducer folded over a list returns the start or a member, which nothing among them beats. -/
theorem fold_spec (l : List (EReal × BitVec 32)) (a : EReal × BitVec 32) :
    (l.foldl (reducer_argmax_f32_i32 (F := Ideal)) a = a ∨ l.foldl (reducer_argmax_f32_i32 (F := Ideal)) a ∈ l)
      ∧ Under a (l.foldl (reducer_argmax_f32_i32 (F := Ideal)) a)
      ∧ ∀ p ∈ l, Under p (l.foldl (reducer_argmax_f32_i32 (F := Ideal)) a) := by
  induction l generalizing a with
  | nil => exact ⟨Or.inl rfl, Under.refl _, fun p hp => absurd hp List.not_mem_nil⟩
  | cons q l ih =>
    obtain ⟨h₁, h₂, h₃⟩ := ih (reducer_argmax_f32_i32 (F := Ideal) a q)
    obtain ⟨k₁, k₂, k₃⟩ := reducer_spec a q
    rw [List.foldl_cons]
    refine ⟨?_, k₂.trans h₂, fun p hp => ?_⟩
    · rcases h₁ with h₁ | h₁
      · rcases k₁ with k₁ | k₁
        · exact Or.inl (h₁.trans k₁)
        · exact Or.inr (by rw [h₁, k₁]; exact List.mem_cons_self)
      · exact Or.inr (List.mem_cons_of_mem _ h₁)
    · rcases List.mem_cons.mp hp with rfl | hp
      · exact k₃.trans h₂
      · exact h₃ p hp

theorem mem_fiber (n : FVec Ideal S16384x1024 .f32) (y : IVec S16384x1024 32) (j : Fin 16384) (p : EReal × BitVec 32) :
    p ∈ Host.argReduceFiber n y reducesTo_S16384x1024_S16384_d1 (ix1 j) ↔ ∃ k : Fin 1024, p = (n (ix2 j k), y (ix2 j k)) := by
  have hd : ∀ i : S16384x1024.Idx, reducesTo_S16384x1024_S16384_d1.drop i = ix1 (i 0) := fun i => by
    funext b
    exact Fin.ext (by match b with | ⟨0, _⟩ => rfl)
  unfold Host.argReduceFiber
  simp only [List.mem_map, List.mem_filter, List.mem_finRange, true_and, decide_eq_true_eq]
  constructor
  · rintro ⟨m, hm, rfl⟩
    rw [hd] at hm
    generalize S16384x1024.rowMajor.symm m = i at hm ⊢
    have h0 : i 0 = j := congrFun hm 0
    refine ⟨i 1, ?_⟩
    rw [show i = ix2 j (i 1) from by rw [← h0]; funext a; match a with | ⟨0, _⟩ => rfl | ⟨1, _⟩ => rfl]
    rfl
  · rintro ⟨k, rfl⟩
    refine ⟨S16384x1024.rowMajor (ix2 j k), ?_, ?_⟩
    · rw [Equiv.symm_apply_apply, hd]; rfl
    · rw [Equiv.symm_apply_apply]

/-- Over the pairs of the negated distances and their rows, from the least value at row zero, the reducer's row is the
    first at which the distance is smallest. -/
theorem fold_row (l : List (EReal × BitVec 32)) (d : Fin 1024 → EReal)
    (hl : ∀ p, p ∈ l ↔ ∃ k : Fin 1024, p = (-(d k), BitVec.ofNat 32 k.val)) :
    (l.foldl (reducer_argmax_f32_i32 (F := Ideal)) (⊥, 0#32)).2 = BitVec.ofNat 32 (Spec.amin d).val := by
  have hv : ∀ k : Fin 1024, (BitVec.ofNat 32 k.val).toInt = k.val := fun k =>
    toInt_ofNat_of_lt (lt_trans k.isLt (by norm_num))
  obtain ⟨h₁, h₂, h₃⟩ := fold_spec l (⊥, 0#32)
  have h₄ : ∀ k : Fin 1024, Under (-(d k), BitVec.ofNat 32 k.val) _ := fun k => h₃ _ ((hl _).mpr ⟨k, rfl⟩)
  clear h₃
  generalize List.foldl _ _ _ = r at h₁ h₂ h₄ ⊢
  have key : ∀ a : Fin 1024, r = (-(d a), BitVec.ofNat 32 a.val) → r.2 = BitVec.ofNat 32 (Spec.amin d).val := by
    rintro a rfl
    rw [Spec.amin_eq d a]
    · intro k
      rcases h₄ k with h | ⟨h, _⟩
      · exact (EReal.neg_lt_neg_iff.mp h).le
      · exact (neg_injective h).ge
    · intro k hk
      rcases h₄ k with h | ⟨_, h⟩
      · exact EReal.neg_lt_neg_iff.mp h
      · rw [hv, hv] at h
        exact absurd hk (by rw [Fin.lt_def]; omega)
  rcases h₁ with h₁ | h₁
  · have hr : r.1 = ⊥ := by rw [h₁]
    refine key 0 (Prod.ext ?_ (by rw [h₁]; rfl))
    rw [hr]
    rcases h₄ 0 with h | ⟨h, _⟩
    · rw [hr] at h; exact absurd h not_lt_bot
    · rw [hr] at h; exact h.symm
  · obtain ⟨k, hk⟩ := (hl _).mp h₁
    exact key k hk

theorem ofBits_neg_inf : Ideal.ofBits .f32 0xFF800000#32 = (⊥ : EReal) := by
  simp [Ideal.ofBits, Ideal.ieee]

theorem iota_at (j : Fin 16384) (k : Fin 1024) : iotaInDim S16384x1024 32 1 (ix2 j k) = BitVec.ofNat 32 k.val := by pointwise

theorem argReduce_eq (n : FVec Ideal S16384x1024 .f32) (y : IVec S16384x1024 32) (ix : FVec Ideal S_ .f32) (iy : IVec S_ 32) (j : S16384.Idx) :
    Host.argReduce reducer_argmax_f32_i32 n y ix iy reducesTo_S16384x1024_S16384_d1 h_S_ j
      = (Host.argReduceFiber n y reducesTo_S16384x1024_S16384_d1 j).foldl reducer_argmax_f32_i32
        (ix (Shape.Idx.first h_S_), iy (Shape.Idx.first h_S_)) :=
  (congrFun (Ideal.argReduce_eq_reduce2 _ n y ix iy _ h_S_) j).trans (Host.reduce2_eq_foldl_fiber _ n y ix iy _ h_S_ j)

theorem start_value : (constant S_ .f32 0xFF800000#32 : FVec Ideal S_ .f32) (Shape.Idx.first h_S_) = ⊥ :=
  (constant_apply _ _ _ _).trans ofBits_neg_inf

theorem start_row : (constantI S_ 32 0#32) (Shape.Idx.first h_S_) = 0#32 := constantI_apply _ _ _ _

/-- The best row of each token: the first at which the negated value is smallest. -/
def argT (n : FVec Ideal S16384x1024 .f32) : IVec S16384 32 := fun j =>
  BitVec.ofNat 32 (Spec.amin fun k => -(n (ix2 (j 0) k) : EReal)).val

theorem argReduce_at (n : FVec Ideal S16384x1024 .f32) (y : IVec S16384x1024 32) (ix : FVec Ideal S_ .f32) (iy : IVec S_ 32)
    (d : Fin 1024 → EReal) (j : Fin 16384) (h : ∀ k, n (ix2 j k) = -(d k)) (hy : ∀ k : Fin 1024, y (ix2 j k) = BitVec.ofNat 32 k.val)
    (hx : ix (Shape.Idx.first h_S_) = ⊥) (hz : iy (Shape.Idx.first h_S_) = 0#32) :
    (Host.argReduce reducer_argmax_f32_i32 n y ix iy reducesTo_S16384x1024_S16384_d1 h_S_ (ix1 j)).2
      = BitVec.ofNat 32 (Spec.amin d).val := by
  rw [argReduce_eq, hx, hz]
  refine fold_row _ d fun p => ?_
  rw [mem_fiber]
  simp only [h, hy]

theorem argReduce_argT (n : FVec Ideal S16384x1024 .f32) :
    (fun j => (Host.argReduce reducer_argmax_f32_i32 n (iotaInDim S16384x1024 32 1) (constant S_ .f32 0xFF800000#32) (constantI S_ 32 0#32)
      reducesTo_S16384x1024_S16384_d1 h_S_ j).2) = argT n := by
  funext j
  rw [eq_ix1 j]
  exact argReduce_at n _ _ _ (fun k => -(n (ix2 (j 0) k) : EReal)) (j 0) (fun k => (neg_neg _).symm) (iota_at (j 0)) start_value start_row

theorem argT_at (n : FVec Ideal S16384x1024 .f32) (d : Fin 1024 → EReal) (j : Fin 16384) (h : ∀ k, n (ix2 j k) = -(d k)) :
    argT n (ix1 j) = BitVec.ofNat 32 (Spec.amin d).val := by
  show BitVec.ofNat 32 (Spec.amin fun k => -(n (ix2 j k) : EReal)).val = _
  simp only [h, neg_neg]

/-- The indices, a negative one counted from the end. -/
def wrapT (I : IVec S16x1024 32) : IVec S16x1024x1 32 :=
  broadcastInDim S16x1024x1 ![0, 1] bcast_S16x1024_S16x1024x1_0_1 (select (cmpi .slt I (broadcastInDim S16x1024 ![] bcast_S_S16x1024 (constantI S_ 32 0#32)))
    (addi I (broadcastInDim S16x1024 ![] bcast_S_S16x1024 (constantI S_ 32 1024#32))) I)

/-- Which of the indices are in range. -/
def insideT (w : IVec S16x1024x1 32) : IVec S16x1024 1 :=
  Host.reduce IntOp.andi
    (andi (cmpi .sge w (broadcastInDim S16x1024x1 ![] bcast_S_S16x1024x1 (constantI S_ 32 0#32)))
      (cmpi .sle w (broadcastInDim S16x1024x1 ![0, 1, 2] bcast_S1x1x1_S16x1024x1_0_1_2 (broadcastInDim S1x1x1 ![2] bcast_S1_S1x1x1_2 (constantI S1 32 1023#32)))))
    (constantI S_ 1 1#1) reducesTo_S16x1024x1_S16x1024_d2 h_S_

/-- The codebook rows at the indices `w`, an index out of range giving a row that is no number. -/
def takeT (e : FVec Ideal S1024x64 .f32) (w : IVec S16x1024x1 32) : FVec Ideal S16x1024x64 .f32 :=
  select (broadcastInDim S16x1024x64 ![0, 1] bcast_S16x1024_S16x1024x64_0_1 (insideT w))
    (Host.gather gather_S1024x64_S16x1024x1_S16x1024x64_2_0_n_n_0_2_164 e w)
    (broadcastInDim S16x1024x64 ![] bcast_S_S16x1024x64 (constant S_ .f32 0x7FC00000#32))

variable (i : Fin 16) (t : Fin 1024) (k : Fin 1024)

theorem toInt_row : (BitVec.ofNat 32 k.val).toInt = k.val := toInt_ofNat_of_lt (lt_trans k.isLt (by norm_num))

theorem wrapT_at (I : IVec S16x1024 32) (z : Fin 1) (h : I (ix2 i t) = BitVec.ofNat 32 k.val) :
    wrapT I (ix3 i t z) = BitVec.ofNat 32 k.val := by
  pointwise [wrapT]
  rw [h]
  have hc : IntOp.cmpi .slt (BitVec.ofNat 32 k.val) 0#32 = 0#1 := by
    have : ¬ (k.val : Int) < 0 := by omega
    simp [IntOp.cmpi, BitVec.slt, toInt_row, this]
  rw [hc]
  rfl

theorem insideT_at (w : IVec S16x1024x1 32) (h : ∀ z, w (ix3 i t z) = BitVec.ofNat 32 k.val) : insideT w (ix2 i t) = 1#1 := by
  have h0 : IntOp.cmpi .sge (BitVec.ofNat 32 k.val) 0#32 = 1#1 := by
    simp [IntOp.cmpi, BitVec.sle, toInt_row]
  have h1 : IntOp.cmpi .sle (BitVec.ofNat 32 k.val) 1023#32 = 1#1 := by
    have : (k.val : Int) ≤ 1023 := by omega
    simp [IntOp.cmpi, BitVec.sle, toInt_row, this]
  pointwise [insideT]
  simp only [h, h0, h1]
  rfl

theorem gather_at (e : FVec Ideal S1024x64 .f32) (w : IVec S16x1024x1 32) (o : Fin 64) (h : ∀ z, w (ix3 i t z) = BitVec.ofNat 32 k.val) :
    Host.gather gather_S1024x64_S16x1024x1_S16x1024x64_2_0_n_n_0_2_164 e w (ix3 i t o) = e (ix2 k o) := by
  generalize hd : gather_S1024x64_S16x1024x1_S16x1024x64_2_0_n_n_0_2_164 = d
  have hs : d.sKept = [1] := by subst hd; rfl
  have hl : d.startIndexMap = [0] := by subst hd; rfl
  have ho : d.operandBatchingDims = [] := by subst hd; rfl
  unfold Host.gather
  refine congrArg e (funext fun a => Fin.ext ?_)
  show d.start (ix3 i t o) w a + d.batchCoord (ix3 i t o) a + d.offCoord (ix3 i t o) a = _
  rw [d.batchCoord_eq_zero _ _ (by rw [ho]; exact List.not_mem_nil), Nat.add_zero]
  match a with
  | ⟨0, _⟩ =>
    have hm : (0 : Fin 2) ∈ d.startIndexMap := by rw [hl]; exact List.mem_singleton.mpr rfl
    have hi : d.siIdx (ix3 i t o) ⟨d.startIndexMap.idxOf 0, List.idxOf_lt_length_iff.2 hm⟩ = ix3 i t (0 : Fin 1) := by
      subst hd
      funext b
      match b with
      | ⟨0, _⟩ => rfl
      | ⟨1, _⟩ => rfl
      | ⟨2, _⟩ => rfl
    have e0 : d.offCoord (ix3 i t o) 0 = 0 := d.offCoord_eq_zero _ _ (by rw [hs]; decide)
    have e1 : d.start (ix3 i t o) w 0 = k.val := by
      unfold GatherDims.start
      rw [dif_pos hm, hi, h, toInt_row]
      subst hd
      show min ((k.val : Int)).toNat (1024 - 1) = k.val
      omega
    exact (congrArg₂ (· + ·) e1 e0).trans (Nat.add_zero _)
  | ⟨1, _⟩ =>
    have e0 : d.offCoord (ix3 i t o) 1 = o.val := by subst hd; rfl
    have e1 : d.start (ix3 i t o) w 1 = 0 := by
      unfold GatherDims.start
      rw [dif_neg (by rw [hl]; decide)]
    exact (congrArg₂ (· + ·) e1 e0).trans (Nat.zero_add _)

theorem select_one {s : Shape} (c : IVec s 1) (a b : FVec Ideal s .f32) (j : s.Idx) (h : c j = 1#1) : select c a b j = a j := by
  show Scalar.select (c j) (a j) (b j) = a j
  rw [h]
  rfl

theorem takeT_at (e : FVec Ideal S1024x64 .f32) (w : IVec S16x1024x1 32) (o : Fin 64) (h : ∀ z, w (ix3 i t z) = BitVec.ofNat 32 k.val) :
    takeT e w (ix3 i t o) = e (ix2 k o) := by
  have hg := gather_at i t k e w o h
  have hb : broadcastInDim S16x1024x64 ![0, 1] bcast_S16x1024_S16x1024x64_0_1 (insideT w) (ix3 i t o) = 1#1 := by
    generalize hv : insideT w = v
    have : v (ix2 i t) = 1#1 := hv ▸ insideT_at i t k w h
    pointwise
    exact this
  unfold takeT
  exact (select_one _ _ _ _ hb).trans hg

end Cert.RefTensor
end
-- ==== Proof.RefSlice.lean ====
/- One layer's arrays cut from the stacks at the loop's counter, and one layer's codes stored there. -/
module

public import proofs.«01_k».proof.Proof.Gen.ReferenceIdeal
public import Idealize.ShloMosaic.Lib.Pointwise
public import Idealize.ShloMosaic.Lib.DynamicIndex

@[expose] public section

set_option maxRecDepth 16384

noncomputable section

namespace Cert.RefTensor

open Idealize.ShloMosaic
open Cert.ReferenceIdeal Cert.ReferenceIdeal.Gen

variable {α : Type}

theorem dyn3 {a b : ℕ} (A : (⟨3, ![8, a, b]⟩ : Shape).Idx → α) (start : Fin 3 → ℤ) (k : Fin 8) (h0 : start 0 = (k.val : ℤ))
    (h1 : start 1 = ((0 : ℕ) : ℤ)) (h2 : start 2 = ((0 : ℕ) : ℤ)) (h : (⟨3, ![8, a, b]⟩ : Shape).Slices (fun _ => 0) ⟨3, ![1, a, b]⟩)
    (j : (⟨3, ![1, a, b]⟩ : Shape).Idx) :
    Host.dynamicSlice ⟨3, ![1, a, b]⟩ A start h j = A (ix3 k (j 1) (j 2)) := by
  rw [Host.dynamicSlice_apply]
  refine congrArg A (funext fun x => Fin.ext ?_)
  have e0 := Host.clampedStart_of_le h.1 start 0 k.val h0 (by show k.val + 1 ≤ 8; omega)
  have e1 := Host.clampedStart_of_le h.1 start 1 0 h1 (by show 0 + a ≤ a; omega)
  have e2 := Host.clampedStart_of_le h.1 start 2 0 h2 (by show 0 + b ≤ b; omega)
  have j0 : (j 0).val = 0 := by have : (j 0).val < 1 := (j 0).isLt; omega
  match x with
  | ⟨0, _⟩ => exact (congrArg₂ (· + ·) e0 j0).trans (Nat.add_zero _)
  | ⟨1, _⟩ => exact (congrArg (· + (j 1).val) e1).trans (Nat.zero_add _)
  | ⟨2, _⟩ => exact (congrArg (· + (j 2).val) e2).trans (Nat.zero_add _)

theorem dyn2 {a : ℕ} (A : (⟨2, ![8, a]⟩ : Shape).Idx → α) (start : Fin 2 → ℤ) (k : Fin 8) (h0 : start 0 = (k.val : ℤ))
    (h1 : start 1 = ((0 : ℕ) : ℤ)) (h : (⟨2, ![8, a]⟩ : Shape).Slices (fun _ => 0) ⟨2, ![1, a]⟩)
    (j : (⟨2, ![1, a]⟩ : Shape).Idx) :
    Host.dynamicSlice ⟨2, ![1, a]⟩ A start h j = A (ix2 k (j 1)) := by
  rw [Host.dynamicSlice_apply]
  refine congrArg A (funext fun x => Fin.ext ?_)
  have e0 := Host.clampedStart_of_le h.1 start 0 k.val h0 (by show k.val + 1 ≤ 8; omega)
  have e1 := Host.clampedStart_of_le h.1 start 1 0 h1 (by show 0 + a ≤ a; omega)
  have j0 : (j 0).val = 0 := by have : (j 0).val < 1 := (j 0).isLt; omega
  match x with
  | ⟨0, _⟩ => exact (congrArg₂ (· + ·) e0 j0).trans (Nat.add_zero _)
  | ⟨1, _⟩ => exact (congrArg (· + (j 1).val) e1).trans (Nat.zero_add _)

/-- The start of layer `c` of a stack of matrices. -/
def at3 (c : IVec S_ 32) : Fin 3 → ℤ := fun k =>
  ((![c, constantI S_ 32 0#32, constantI S_ 32 0#32] : Fin 3 → IVec S_ 32) k (Shape.Idx.first h_S_)).toInt

/-- The start of layer `c` of a stack of vectors. -/
def at2 (c : IVec S_ 32) : Fin 2 → ℤ := fun k =>
  ((![c, constantI S_ 32 0#32] : Fin 2 → IVec S_ 32) k (Shape.Idx.first h_S_)).toInt

variable (k : Fin 8)

theorem toInt_layer : (BitVec.ofNat 32 k.val).toInt = (k.val : ℤ) := toInt_ofNat_of_lt (lt_trans k.isLt (by norm_num))

/-- The counter at layer `k`. -/
def ctr : IVec S_ 32 := fun _ => BitVec.ofNat 32 k.val

def cutIn (A : S8x64x1024.Idx → α) (c : IVec S_ 32) : S64x1024.Idx → α :=
  shapeCast S64x1024 (Host.dynamicSlice S1x64x1024 A (at3 c) sliceFits_S8x64x1024_S1x64x1024) shapeCasts_S1x64x1024_S64x1024

theorem cutIn_at (A : S8x64x1024.Idx → α) (i : Fin 64) (j : Fin 1024) : cutIn A (ctr k) (ix2 i j) = A (ix3 k i j) := by
  have hD := dyn3 A (at3 (ctr k)) k (toInt_layer k) rfl rfl sliceFits_S8x64x1024_S1x64x1024
  unfold cutIn
  generalize Host.dynamicSlice _ _ _ _ = D at hD ⊢
  pointwise
  exact hD _

def cutOut (A : S8x1024x64.Idx → α) (c : IVec S_ 32) : S1024x64.Idx → α :=
  shapeCast S1024x64 (Host.dynamicSlice S1x1024x64 A (at3 c) sliceFits_S8x1024x64_S1x1024x64) shapeCasts_S1x1024x64_S1024x64

theorem cutOut_at (A : S8x1024x64.Idx → α) (i : Fin 1024) (j : Fin 64) : cutOut A (ctr k) (ix2 i j) = A (ix3 k i j) := by
  have hD := dyn3 A (at3 (ctr k)) k (toInt_layer k) rfl rfl sliceFits_S8x1024x64_S1x1024x64
  unfold cutOut
  generalize Host.dynamicSlice _ _ _ _ = D at hD ⊢
  pointwise
  exact hD _

def cutShort (A : S8x64.Idx → α) (c : IVec S_ 32) : S64.Idx → α :=
  shapeCast S64 (Host.dynamicSlice S1x64 A (at2 c) sliceFits_S8x64_S1x64) shapeCasts_S1x64_S64

theorem cutShort_at (A : S8x64.Idx → α) (i : Fin 64) : cutShort A (ctr k) (ix1 i) = A (ix2 k i) := by
  have hD := dyn2 A (at2 (ctr k)) k (toInt_layer k) rfl sliceFits_S8x64_S1x64
  unfold cutShort
  generalize Host.dynamicSlice _ _ _ _ = D at hD ⊢
  pointwise
  exact hD _

def cutLong (A : S8x1024.Idx → α) (c : IVec S_ 32) : S1024.Idx → α :=
  shapeCast S1024 (Host.dynamicSlice S1x1024 A (at2 c) sliceFits_S8x1024_S1x1024) shapeCasts_S1x1024_S1024

theorem cutLong_at (A : S8x1024.Idx → α) (i : Fin 1024) : cutLong A (ctr k) (ix1 i) = A (ix2 k i) := by
  have hD := dyn2 A (at2 (ctr k)) k (toInt_layer k) rfl sliceFits_S8x1024_S1x1024
  unfold cutLong
  generalize Host.dynamicSlice _ _ _ _ = D at hD ⊢
  pointwise
  exact hD _

/-- The stack of codes with one layer's stored. -/
def storeT (s : IVec S8x16x1024 32) (I : IVec S16x1024 32) (c : IVec S_ 32) : IVec S8x16x1024 32 :=
  Host.dynamicUpdateSlice s (broadcastInDim S1x16x1024 ![1, 2] bcast_S16x1024_S1x16x1024_1_2 I) (at3 c) updateFits_S8x16x1024_S1x16x1024

theorem storeT_at (s : IVec S8x16x1024 32) (I : IVec S16x1024 32) (l : Fin 8) (i : Fin 16) (t : Fin 1024) :
    storeT s I (ctr k) (ix3 l i t) = if l = k then I (ix2 i t) else s (ix3 l i t) := by
  have e0 := Host.clampedStart_of_le (s := S8x16x1024) (t := S1x16x1024) updateFits_S8x16x1024_S1x16x1024.1 (at3 (ctr k)) 0 k.val (toInt_layer k) (by show k.val + 1 ≤ 8; omega)
  have e1 := Host.clampedStart_of_le (s := S8x16x1024) (t := S1x16x1024) updateFits_S8x16x1024_S1x16x1024.1 (at3 (ctr k)) 1 0 rfl (by show 0 + 16 ≤ 16; omega)
  have e2 := Host.clampedStart_of_le (s := S8x16x1024) (t := S1x16x1024) updateFits_S8x16x1024_S1x16x1024.1 (at3 (ctr k)) 2 0 rfl (by show 0 + 1024 ≤ 1024; omega)
  unfold storeT
  have hU : ∀ j : S1x16x1024.Idx, broadcastInDim S1x16x1024 ![1, 2] bcast_S16x1024_S1x16x1024_1_2 I j = I (ix2 (j 1) (j 2)) := fun j => by
    rw [eq_ix3 j]
    pointwise
  generalize broadcastInDim S1x16x1024 ![1, 2] bcast_S16x1024_S1x16x1024_1_2 I = U at hU ⊢
  rw [Host.dynamicUpdateSlice_apply]
  by_cases hl : l = k
  · subst hl
    rw [if_pos rfl, dif_pos, hU]
    · refine congrArg I (funext fun x => Fin.ext ?_)
      match x with
      | ⟨0, _⟩ => exact (congrArg (i.val - ·) e1).trans (Nat.sub_zero _)
      | ⟨1, _⟩ => exact (congrArg (t.val - ·) e2).trans (Nat.sub_zero _)
    · intro a
      match a with
      | ⟨0, _⟩ =>
        rw [show (⟨0, _⟩ : Fin S8x16x1024.rank) = 0 from rfl, e0]
        exact ⟨le_refl _, Nat.lt_succ_self _⟩
      | ⟨1, _⟩ =>
        rw [show (⟨1, _⟩ : Fin S8x16x1024.rank) = 1 from rfl, e1]
        exact ⟨Nat.zero_le _, by show i.val < 0 + 16; omega⟩
      | ⟨2, _⟩ =>
        rw [show (⟨2, _⟩ : Fin S8x16x1024.rank) = 2 from rfl, e2]
        exact ⟨Nat.zero_le _, by show t.val < 0 + 1024; omega⟩
  · rw [if_neg hl, dif_neg]
    intro h
    have h0 := h 0
    rw [e0] at h0
    have : k.val ≤ l.val ∧ l.val < k.val + 1 := h0
    exact hl (Fin.ext (by omega))

end Cert.RefTensor
end
-- ==== Proof.RefTrip.lean ====
/- What one trip of the reference's loop leaves in the carried buffers, read stretch by stretch. -/
module

public import proofs.«01_k».proof.Proof.RefRun
public import proofs.«01_k».proof.Proof.RefArg
public import proofs.«01_k».proof.Proof.RefSlice

@[expose] public section

set_option maxRecDepth 16384

noncomputable section

namespace Cert.RefTrip

open Cert.ReferenceIdeal Cert.ReferenceIdeal.Gen Cert.RefTensor Cert.RefRun
open Idealize.ShloMosaic Idealize.ShloMosaic.TcCoe Idealize.ShloMosaic.Tactic
open Idealize.ShloMosaic.StableHlo

/-- What a buffer holds. -/
abbrev rd (V : Valuation τ sig (Elt Ideal)) (r : Ref sig .tc) := V (Proc.devRef .tc r)

variable (V : Valuation τ sig (Elt Ideal))

/-! ## The layer's arrays -/

/-- After the condition and the slices of the stacks. -/
def cuts : Valuation τ sig (Elt Ideal) :=
  after opsBook (after opsBout (after opsGout (after opsWout (after opsBin (after opsGin (after opsWin (after condOps V)))))))

theorem dyn_congr {α : Type} {s t : Shape} (A : s.Idx → α) (st st' : Fin s.rank → ℤ) (h : s.Slices (fun _ => 0) t) (e : ∀ k, st k = st' k) :
    Host.dynamicSlice t A st h = Host.dynamicSlice t A st' h := by
  rw [funext e]

theorem dynUpdate_congr {α : Type} {s u : Shape} (A : s.Idx → α) (U : u.Idx → α) (st st' : Fin s.rank → ℤ) (h : s.Slices (fun _ => 0) u)
    (e : ∀ k, st k = st' k) : Host.dynamicUpdateSlice A U st h = Host.dynamicUpdateSlice A U st' h := by
  rw [funext e]

theorem win_read : rd (after opsWin V) main_while0b_v4 = cutIn (rd V main_v2_0) (rd V main_v2_7) := by
  unfold rd cutIn; after_reads_simp
  simp only [StableHlo.TRef.ofBuf, StableHlo.TRef.toBuf, cast_eq]
  refine congrArg (fun D => shapeCast S64x1024 D _) (dyn_congr _ _ _ _ fun k => ?_)
  match k with
  | ⟨0, _⟩ => rfl
  | ⟨1, _⟩ => rfl
  | ⟨2, _⟩ => rfl

theorem cuts_win : rd (cuts V) main_while0b_v4 = cutIn (rd V main_v2_0) (rd V main_v2_7) := by
  have h : ∀ W : Valuation τ sig (Elt Ideal), rd (after opsBook (after opsBout (after opsGout (after opsWout (after opsBin (after opsGin W)))))) main_while0b_v4 = rd W main_while0b_v4 := fun W => by
    unfold rd; after_reads_simp
  unfold cuts
  rw [h, win_read]
  congr 1 <;> (unfold rd; after_reads_simp)

theorem gin_read : rd (after opsGin V) main_while0b_v5 = cutShort (rd V main_v2_1) (rd V main_v2_7) := by
  unfold rd cutShort; after_reads_simp
  simp only [StableHlo.TRef.ofBuf, StableHlo.TRef.toBuf, cast_eq]
  refine congrArg (fun D => shapeCast S64 D _) (dyn_congr _ _ _ _ fun k => ?_)
  match k with
  | ⟨0, _⟩ => rfl
  | ⟨1, _⟩ => rfl

theorem cuts_gin : rd (cuts V) main_while0b_v5 = cutShort (rd V main_v2_1) (rd V main_v2_7) := by
  have h : ∀ W : Valuation τ sig (Elt Ideal), rd (after opsBook (after opsBout (after opsGout (after opsWout (after opsBin W))))) main_while0b_v5 = rd W main_while0b_v5 := fun W => by
    unfold rd; after_reads_simp
  unfold cuts
  rw [h, gin_read]
  congr 1 <;> (unfold rd; after_reads_simp)

theorem bin_read : rd (after opsBin V) main_while0b_v6 = cutShort (rd V main_v2_2) (rd V main_v2_7) := by
  unfold rd cutShort; after_reads_simp
  simp only [StableHlo.TRef.ofBuf, StableHlo.TRef.toBuf, cast_eq]
  refine congrArg (fun D => shapeCast S64 D _) (dyn_congr _ _ _ _ fun k => ?_)
  match k with
  | ⟨0, _⟩ => rfl
  | ⟨1, _⟩ => rfl

theorem cuts_bin : rd (cuts V) main_while0b_v6 = cutShort (rd V main_v2_2) (rd V main_v2_7) := by
  have h : ∀ W : Valuation τ sig (Elt Ideal), rd (after opsBook (after opsBout (after opsGout (after opsWout W)))) main_while0b_v6 = rd W main_while0b_v6 := fun W => by
    unfold rd; after_reads_simp
  unfold cuts
  rw [h, bin_read]
  congr 1 <;> (unfold rd; after_reads_simp)

theorem wout_read : rd (after opsWout V) main_while0b_v7 = cutOut (rd V main_v2_3) (rd V main_v2_7) := by
  unfold rd cutOut; after_reads_simp
  simp only [StableHlo.TRef.ofBuf, StableHlo.TRef.toBuf, cast_eq]
  refine congrArg (fun D => shapeCast S1024x64 D _) (dyn_congr _ _ _ _ fun k => ?_)
  match k with
  | ⟨0, _⟩ => rfl
  | ⟨1, _⟩ => rfl
  | ⟨2, _⟩ => rfl

theorem cuts_wout : rd (cuts V) main_while0b_v7 = cutOut (rd V main_v2_3) (rd V main_v2_7) := by
  have h : ∀ W : Valuation τ sig (Elt Ideal), rd (after opsBook (after opsBout (after opsGout W))) main_while0b_v7 = rd W main_while0b_v7 := fun W => by
    unfold rd; after_reads_simp
  unfold cuts
  rw [h, wout_read]
  congr 1 <;> (unfold rd; after_reads_simp)

theorem gout_read : rd (after opsGout V) main_while0b_v8 = cutLong (rd V main_v2_4) (rd V main_v2_7) := by
  unfold rd cutLong; after_reads_simp
  simp only [StableHlo.TRef.ofBuf, StableHlo.TRef.toBuf, cast_eq]
  refine congrArg (fun D => shapeCast S1024 D _) (dyn_congr _ _ _ _ fun k => ?_)
  match k with
  | ⟨0, _⟩ => rfl
  | ⟨1, _⟩ => rfl

theorem cuts_gout : rd (cuts V) main_while0b_v8 = cutLong (rd V main_v2_4) (rd V main_v2_7) := by
  have h : ∀ W : Valuation τ sig (Elt Ideal), rd (after opsBook (after opsBout W)) main_while0b_v8 = rd W main_while0b_v8 := fun W => by
    unfold rd; after_reads_simp
  unfold cuts
  rw [h, gout_read]
  congr 1 <;> (unfold rd; after_reads_simp)

theorem bout_read : rd (after opsBout V) main_while0b_v9 = cutLong (rd V main_v2_5) (rd V main_v2_7) := by
  unfold rd cutLong; after_reads_simp
  simp only [StableHlo.TRef.ofBuf, StableHlo.TRef.toBuf, cast_eq]
  refine congrArg (fun D => shapeCast S1024 D _) (dyn_congr _ _ _ _ fun k => ?_)
  match k with
  | ⟨0, _⟩ => rfl
  | ⟨1, _⟩ => rfl

theorem cuts_bout : rd (cuts V) main_while0b_v9 = cutLong (rd V main_v2_5) (rd V main_v2_7) := by
  have h : ∀ W : Valuation τ sig (Elt Ideal), rd (after opsBook W) main_while0b_v9 = rd W main_while0b_v9 := fun W => by
    unfold rd; after_reads_simp
  unfold cuts
  rw [h, bout_read]
  congr 1 <;> (unfold rd; after_reads_simp)

theorem book_read : rd (after opsBook V) main_while0b_v10 = cutOut (rd V main_v2_6) (rd V main_v2_7) := by
  unfold rd cutOut; after_reads_simp
  simp only [StableHlo.TRef.ofBuf, StableHlo.TRef.toBuf, cast_eq]
  refine congrArg (fun D => shapeCast S1024x64 D _) (dyn_congr _ _ _ _ fun k => ?_)
  match k with
  | ⟨0, _⟩ => rfl
  | ⟨1, _⟩ => rfl
  | ⟨2, _⟩ => rfl

theorem cuts_book : rd (cuts V) main_while0b_v10 = cutOut (rd V main_v2_6) (rd V main_v2_7) := by
  unfold cuts
  rw [book_read]
  congr 1 <;> (unfold rd; after_reads_simp)

theorem cuts_keep : rd (cuts V) main_v2_7 = rd V main_v2_7 ∧ rd (cuts V) main_v2_8 = rd V main_v2_8
    ∧ rd (cuts V) main_v2_9 = rd V main_v2_9 ∧ rd (cuts V) main_v2_10 = rd V main_v2_10
    ∧ rd (cuts V) main_v2_11 = rd V main_v2_11 ∧ rd (cuts V) main_v2_12 = rd V main_v2_12 := by
  unfold rd cuts
  refine ⟨?_, ?_, ?_, ?_, ?_, ?_⟩ <;> after_reads_simp

/-! ## The distances -/

theorem score_z : rd (after opsScore V) main_while0b_v24
    = zeT (rd V main_while0b_v4) (rd V main_while0b_v5) (rd V main_while0b_v6) (rd V main_v2_8) := by
  unfold rd; after_reads_simp; rfl
theorem score_n : rd (after opsScore V) main_while0b_v57
    = negT (znT (zeT (rd V main_while0b_v4) (rd V main_while0b_v5) (rd V main_while0b_v6) (rd V main_v2_8))) (unT (rd V main_while0b_v10)) := by
  unfold rd; after_reads_simp; rfl
theorem score_keep : rd (after opsScore V) main_while0b_v7 = rd V main_while0b_v7 ∧ rd (after opsScore V) main_while0b_v8 = rd V main_while0b_v8
    ∧ rd (after opsScore V) main_while0b_v9 = rd V main_while0b_v9 ∧ rd (after opsScore V) main_while0b_v10 = rd V main_while0b_v10
    ∧ rd (after opsScore V) main_v2_7 = rd V main_v2_7 ∧ rd (after opsScore V) main_v2_8 = rd V main_v2_8
    ∧ rd (after opsScore V) main_v2_9 = rd V main_v2_9 ∧ rd (after opsScore V) main_v2_10 = rd V main_v2_10
    ∧ rd (after opsScore V) main_v2_11 = rd V main_v2_11 ∧ rd (after opsScore V) main_v2_12 = rd V main_v2_12 := by
  unfold rd
  refine ⟨?_, ?_, ?_, ?_, ?_, ?_, ?_, ?_, ?_, ?_⟩ <;> after_reads_simp

/-! ## The chosen rows -/

theorem arg_read : rd (after opsArg V) main_while0b_v58 = argT (rd V main_while0b_v57) := by
  unfold rd; after_reads_simp
  simp only [StableHlo.TRef.ofBuf, StableHlo.TRef.toBuf, cast_eq]
  exact argReduce_argT _

/-- After the choice and the look-up. -/
def picks : Valuation τ sig (Elt Ideal) := after opsTake (after opsIdx (after opsArg V))

theorem idx_read : rd (after opsIdx V) main_while0b_v59 = shapeCast S16x1024 (rd V main_while0b_v58 : IVec S16384 32) shapeCasts_S16384_S16x1024 := by
  unfold rd; after_reads_simp; rfl

theorem take_read : rd (after opsTake V) main_while0b_v60 = takeT (rd V main_while0b_v10) (wrapT (rd V main_while0b_v59)) := by
  unfold rd takeT insideT wrapT; after_reads_simp
  simp only [StableHlo.TRef.ofBuf, StableHlo.TRef.toBuf, cast_eq]

theorem take_idx : rd (after opsTake V) main_while0b_v59 = rd V main_while0b_v59 := by
  unfold rd; after_reads_simp

theorem idx_book : rd (after opsIdx (after opsArg V)) main_while0b_v10 = rd V main_while0b_v10 := by
  unfold rd; after_reads_simp

theorem picks_keep : rd (picks V) main_while0b_v7 = rd V main_while0b_v7 ∧ rd (picks V) main_while0b_v8 = rd V main_while0b_v8
    ∧ rd (picks V) main_while0b_v9 = rd V main_while0b_v9 ∧ rd (picks V) main_while0b_v24 = rd V main_while0b_v24
    ∧ rd (picks V) main_v2_7 = rd V main_v2_7 ∧ rd (picks V) main_v2_8 = rd V main_v2_8
    ∧ rd (picks V) main_v2_9 = rd V main_v2_9 ∧ rd (picks V) main_v2_10 = rd V main_v2_10
    ∧ rd (picks V) main_v2_11 = rd V main_v2_11 ∧ rd (picks V) main_v2_12 = rd V main_v2_12 := by
  unfold rd picks
  refine ⟨?_, ?_, ?_, ?_, ?_, ?_, ?_, ?_, ?_, ?_⟩ <;> after_reads_simp

/-- The codes of the layer. -/
def codeT (n : FVec Ideal S16384x1024 .f32) : IVec S16x1024 32 := shapeCast S16x1024 (argT n) shapeCasts_S16384_S16x1024

theorem picks_code : rd (picks V) main_while0b_v59 = codeT (rd V main_while0b_v57) := by
  unfold picks codeT
  rw [take_idx, idx_read, arg_read]

theorem picks_rows : rd (picks V) main_while0b_v60 = takeT (rd V main_while0b_v10) (wrapT (codeT (rd V main_while0b_v57))) := by
  unfold picks codeT
  rw [take_read, idx_read, arg_read, idx_book]

/-! ## The layer's output, the latent and the losses -/

/-- The chosen rows laid out as the projected batch. -/
def rowsT (x : FVec Ideal S16x1024x64 .f32) : FVec Ideal S16x64x1024 .f32 :=
  transpose S16x64x1024 [0, 2, 1] x transposes_S16x1024x64_S16x64x1024_0_2_1

/-- The layer's output from the buffers that hold its parts. -/
def outV : FVec Ideal S16x1024x1024 .f32 :=
  outT (rd V main_while0b_v24) (rowsT (rd V main_while0b_v60)) (rd V main_while0b_v7) (rd V main_while0b_v8) (rd V main_while0b_v9)

theorem tail_res : rd (after opsTail V) main_while0b_v93 = (subf (rd V main_v2_8 : FVec Ideal S16x1024x1024 .f32) (outV V) : FVec Ideal S16x1024x1024 .f32) := by
  unfold rd; after_reads_simp; rfl
theorem tail_lat : rd (after opsTail V) main_while0b_v92 = latT (rd V main_v2_9) (outV V) := by
  unfold rd; after_reads_simp; rfl
theorem tail_commit : rd (after opsTail V) main_while0b_v97
    = lossT (rd V main_v2_10) (rd V main_while0b_v24) (rowsT (rd V main_while0b_v60)) := by
  unfold rd; after_reads_simp; rfl
theorem tail_book : rd (after opsTail V) main_while0b_v101
    = lossT (rd V main_v2_11) (rowsT (rd V main_while0b_v60)) (rd V main_while0b_v24) := by
  unfold rd; after_reads_simp; rfl
theorem tail_keep : rd (after opsTail V) main_while0b_v59 = rd V main_while0b_v59 ∧ rd (after opsTail V) main_v2_7 = rd V main_v2_7
    ∧ rd (after opsTail V) main_v2_12 = rd V main_v2_12 := by
  unfold rd
  refine ⟨?_, ?_, ?_⟩ <;> after_reads_simp

/-- After the codes are stored and the carried values copied. -/
def ends : Valuation τ sig (Elt Ideal) := after opsNext (after opsCode V)

theorem ends_res : rd (ends V) main_v2_8 = rd V main_while0b_v93 := by
  unfold rd ends; after_reads_simp; rfl
theorem ends_lat : rd (ends V) main_v2_9 = rd V main_while0b_v92 := by
  unfold rd ends; after_reads_simp; rfl
theorem ends_commit : rd (ends V) main_v2_10 = rd V main_while0b_v97 := by
  unfold rd ends; after_reads_simp; rfl
theorem ends_book : rd (ends V) main_v2_11 = rd V main_while0b_v101 := by
  unfold rd ends; after_reads_simp; rfl
theorem ends_code : rd (ends V) main_v2_12 = storeT (rd V main_v2_12) (rd V main_while0b_v59) (rd V main_v2_7) := by
  unfold rd ends storeT; after_reads_simp
  simp only [StableHlo.TRef.ofBuf, StableHlo.TRef.toBuf, cast_eq]
  refine dynUpdate_congr _ _ _ _ _ fun k => ?_
  match k with
  | ⟨0, _⟩ => rfl
  | ⟨1, _⟩ => rfl
  | ⟨2, _⟩ => rfl

/-! ## The trip -/

/-- A trip is its stretches one after the other. -/
theorem trip_eq : afterL bodyI (after condOps V) = ends (after opsTail (picks (after opsScore (cuts V)))) := by
  simp only [afterL_cons, afterL_nil]
  rfl

/-- The projected batch of the trip. -/
def zV : FVec Ideal S16x64x1024 .f32 :=
  zeT (cutIn (rd V main_v2_0) (rd V main_v2_7)) (cutShort (rd V main_v2_1) (rd V main_v2_7)) (cutShort (rd V main_v2_2) (rd V main_v2_7)) (rd V main_v2_8)

/-- The codes of the trip. -/
def cV : IVec S16x1024 32 := codeT (negT (znT (zV V)) (unT (cutOut (rd V main_v2_6) (rd V main_v2_7))))

/-- The chosen rows of the trip. -/
def qV : FVec Ideal S16x64x1024 .f32 := rowsT (takeT (cutOut (rd V main_v2_6) (rd V main_v2_7)) (wrapT (cV V)))

/-- The output of the trip. -/
def oV : FVec Ideal S16x1024x1024 .f32 :=
  outT (zV V) (qV V) (cutOut (rd V main_v2_3) (rd V main_v2_7)) (cutLong (rd V main_v2_4) (rd V main_v2_7)) (cutLong (rd V main_v2_5) (rd V main_v2_7))

theorem score_code : rd (picks (after opsScore (cuts V))) main_while0b_v59 = cV V := by
  obtain ⟨h7, h8, -⟩ := cuts_keep V
  rw [picks_code, score_n, cuts_win, cuts_gin, cuts_bin, cuts_book, h8]
  rfl

theorem picks_z : rd (picks (after opsScore (cuts V))) main_while0b_v24 = zV V := by
  obtain ⟨h7, h8, -⟩ := cuts_keep V
  obtain ⟨-, -, -, k24, -⟩ := picks_keep (after opsScore (cuts V))
  rw [k24, score_z, cuts_win, cuts_gin, cuts_bin, h8]
  rfl

theorem picks_q : rowsT (rd (picks (after opsScore (cuts V))) main_while0b_v60) = qV V := by
  obtain ⟨h7, h8, -⟩ := cuts_keep V
  obtain ⟨-, -, -, s10, -⟩ := score_keep (cuts V)
  rw [picks_rows, score_n, cuts_win, cuts_gin, cuts_bin, s10, cuts_book, h8]
  rfl

theorem picks_out : outV (picks (after opsScore (cuts V))) = oV V := by
  obtain ⟨k7, k8, k9, -⟩ := picks_keep (after opsScore (cuts V))
  obtain ⟨s7, s8, s9, -⟩ := score_keep (cuts V)
  unfold outV
  rw [picks_z, picks_q, k7, k8, k9, s7, s8, s9, cuts_wout, cuts_gout, cuts_bout]
  rfl

theorem trip_res : rd (afterL bodyI (after condOps V)) main_v2_8 = (subf (rd V main_v2_8 : FVec Ideal S16x1024x1024 .f32) (oV V) : FVec Ideal S16x1024x1024 .f32) := by
  obtain ⟨-, -, -, -, -, k8, -⟩ := picks_keep (after opsScore (cuts V))
  obtain ⟨-, -, -, -, -, s8, -⟩ := score_keep (cuts V)
  obtain ⟨-, h8, -⟩ := cuts_keep V
  rw [trip_eq, ends_res, tail_res, picks_out, k8, s8, h8]

theorem trip_lat : rd (afterL bodyI (after condOps V)) main_v2_9 = latT (rd V main_v2_9) (oV V) := by
  obtain ⟨-, -, -, -, -, -, k9, -⟩ := picks_keep (after opsScore (cuts V))
  obtain ⟨-, -, -, -, -, -, s9, -⟩ := score_keep (cuts V)
  obtain ⟨-, -, h9, -⟩ := cuts_keep V
  rw [trip_eq, ends_lat, tail_lat, picks_out, k9, s9, h9]

theorem trip_commit : rd (afterL bodyI (after condOps V)) main_v2_10 = lossT (rd V main_v2_10) (zV V) (qV V) := by
  obtain ⟨-, -, -, -, -, -, -, k10, -⟩ := picks_keep (after opsScore (cuts V))
  obtain ⟨-, -, -, -, -, -, -, s10, -⟩ := score_keep (cuts V)
  obtain ⟨-, -, -, h10, -⟩ := cuts_keep V
  rw [trip_eq, ends_commit, tail_commit, picks_z, picks_q, k10, s10, h10]

theorem trip_book : rd (afterL bodyI (after condOps V)) main_v2_11 = lossT (rd V main_v2_11) (qV V) (zV V) := by
  obtain ⟨-, -, -, -, -, -, -, -, k11, -⟩ := picks_keep (after opsScore (cuts V))
  obtain ⟨-, -, -, -, -, -, -, -, s11, -⟩ := score_keep (cuts V)
  obtain ⟨-, -, -, -, h11, -⟩ := cuts_keep V
  rw [trip_eq, ends_book, tail_book, picks_z, picks_q, k11, s11, h11]

theorem trip_code : rd (afterL bodyI (after condOps V)) main_v2_12 = storeT (rd V main_v2_12) (cV V) (rd V main_v2_7) := by
  obtain ⟨-, -, -, -, k7, -, -, -, -, k12⟩ := picks_keep (after opsScore (cuts V))
  obtain ⟨-, -, -, -, s7, -, -, -, -, s12⟩ := score_keep (cuts V)
  obtain ⟨h7, -, -, -, -, h12⟩ := cuts_keep V
  obtain ⟨t59, t7, t12⟩ := tail_keep (picks (after opsScore (cuts V)))
  rw [trip_eq, ends_code, t59, t7, t12, score_code, k7, k12, s7, s12, h7, h12]

end Cert.RefTrip
end
-- ==== Proof.RefStep.lean ====
/- One trip of the reference's loop is one layer of the quantizer on every column. -/
module

public import proofs.«01_k».proof.Proof.RefTrip
public import proofs.«01_k».proof.Proof.Finite

@[expose] public section

set_option maxRecDepth 16384

noncomputable section

namespace Cert.RefTrip

open Cert.ReferenceIdeal Cert.ReferenceIdeal.Gen Cert.RefTensor Cert.RefRun
open Idealize.ShloMosaic Idealize.ShloMosaic.TcCoe Idealize.ShloMosaic.Tactic
open Idealize.ShloMosaic.StableHlo

/-- A stack of eight matrices, or of eight vectors, as a function. -/
def mat {a b : ℕ} (A : FVec Ideal (⟨3, ![8, a, b]⟩ : Shape) .f32) : Fin 8 → Fin a → Fin b → EReal := fun k i j => A (ix3 k i j)
def vec {a : ℕ} (A : FVec Ideal (⟨2, ![8, a]⟩ : Shape) .f32) : Fin 8 → Fin a → EReal := fun k i => A (ix2 k i)

/-- A column of the batch. -/
def col (z : FVec Ideal S16x1024x1024 .f32) (i : Fin 16) (t : Fin 1024) : Fin 1024 → EReal := fun d => z (ix3 i d t)

/-- The layers over the stacks that the loop carries. -/
def layV (V : Valuation τ sig (Elt Ideal)) : ℕ → Spec.Lay :=
  Spec.layOf (mat (rd V main_v2_0)) (vec (rd V main_v2_1)) (vec (rd V main_v2_2)) (mat (rd V main_v2_3)) (vec (rd V main_v2_4))
    (vec (rd V main_v2_5)) (mat (rd V main_v2_6))

/-! ## The tensors, over any arrays -/

variable (k : Fin 8) (wi : FVec Ideal S8x64x1024 .f32) (gi bi : FVec Ideal S8x64 .f32) (wo : FVec Ideal S8x1024x64 .f32)
  (go bo : FVec Ideal S8x1024 .f32) (e : FVec Ideal S8x1024x64 .f32) (R : FVec Ideal S16x1024x1024 .f32) (i : Fin 16) (t : Fin 1024)

/-- The layer over given stacks. -/
abbrev lay : Spec.Lay := Spec.layOf (mat wi) (vec gi) (vec bi) (mat wo) (vec go) (vec bo) (mat e) k.val

theorem ofNat_val : Fin.ofNat 8 k.val = k := Fin.ext (Nat.mod_eq_of_lt k.isLt)

theorem z_at (o : Fin 64) :
    zeT (cutIn wi (ctr k)) (cutShort gi (ctr k)) (cutShort bi (ctr k)) R (ix3 i o t) = Spec.ze (lay k wi gi bi wo go bo e) (col R i t) o := by
  rw [zeT_at]
  simp only [cutIn_at, cutShort_at, Spec.ze, lay, Spec.layOf, ofNat_val]
  refine congrArg (· + _) (Finset.sum_congr rfl fun c _ => ?_)
  exact mul_comm _ _

theorem code_at (z : FVec Ideal S16x64x1024 .f32) (x : Fin 1024 → EReal) (hz : ∀ o, z (ix3 i o t) = Spec.ze (lay k wi gi bi wo go bo e) x o) :
    codeT (negT (znT z) (unT (cutOut e (ctr k)))) (ix2 i t) = BitVec.ofNat 32 (Spec.idx (lay k wi gi bi wo go bo e) x).val := by
  have hs : ∀ A : IVec S16384 32, shapeCast S16x1024 A shapeCasts_S16384_S16x1024 (ix2 i t) = A (ix1 (row i t)) := fun A => by
    pointwise
    rfl
  unfold codeT
  rw [hs]
  refine argT_at _ (Spec.dist (lay k wi gi bi wo go bo e) x) _ fun r => ?_
  have hu : ∀ o, unT (cutOut e (ctr k)) (ix2 r o) = (lay k wi gi bi wo go bo e).cbn r o := fun o => by
    rw [unT_at]
    simp only [cutOut_at, lay, Spec.layOf, ofNat_val]
    rfl
  have hn : ∀ o, znT z (ix2 (row i t) o) = Spec.zn (lay k wi gi bi wo go bo e) x o := fun o => by
    rw [znT_at]
    simp only [hz]
    rfl
  rw [negT_at]
  simp only [hu, hn]
  unfold Spec.dist
  rw [Spec.two_eq, Spec.mul_sum _ (by norm_num : (0 : ℝ) ≤ 2)]
  refine congrArg Neg.neg (congrArg₂ (· + ·) (congrArg (_ - ·) (Finset.sum_congr rfl fun o _ => ?_)) ?_)
  · rw [mul_assoc, mul_comm (Spec.zn _ _ _)]
  · rfl

theorem q_at (I : IVec S16x1024 32) (x : Fin 1024 → EReal) (hI : I (ix2 i t) = BitVec.ofNat 32 (Spec.idx (lay k wi gi bi wo go bo e) x).val) (o : Fin 64) :
    rowsT (takeT (cutOut e (ctr k)) (wrapT I)) (ix3 i o t) = Spec.zq (lay k wi gi bi wo go bo e) x o := by
  have hr : ∀ A : FVec Ideal S16x1024x64 .f32, rowsT A (ix3 i o t) = A (ix3 i t o) := fun A => by
    unfold rowsT
    pointwise
  rw [hr, takeT_at i t _ _ _ o fun z => wrapT_at i t _ I z hI, cutOut_at]
  simp only [Spec.zq, lay, Spec.layOf, ofNat_val]
  rfl

theorem o_at (z q : FVec Ideal S16x64x1024 .f32) (x : Fin 1024 → EReal) (hz : ∀ o, z (ix3 i o t) = Spec.ze (lay k wi gi bi wo go bo e) x o)
    (hq : ∀ o, q (ix3 i o t) = Spec.zq (lay k wi gi bi wo go bo e) x o) (hL : (lay k wi gi bi wo go bo e).Fine) (hx : ∀ c, Spec.IsR (x c)) (d : Fin 1024) :
    outT z q (cutOut wo (ctr k)) (cutLong go (ctr k)) (cutLong bo (ctr k)) (ix3 i d t) = Spec.out (lay k wi gi bi wo go bo e) x d := by
  rw [outT_at]
  simp only [hz, hq, (hL.ze hx _).add_sub (hL.zq x _), cutOut_at, cutLong_at, Spec.out]
  simp only [lay, Spec.layOf, ofNat_val]
  refine congrArg (· + _) (Finset.sum_congr rfl fun c _ => ?_)
  exact mul_comm _ _

theorem lossT_real (l : FVec Ideal S_ .f32) (z q : FVec Ideal S16x64x1024 .f32) (err : Fin 16 → Fin 1024 → EReal)
    (h : ∀ i t, ∑ o, (z (ix3 i o t) - q (ix3 i o t)) * (z (ix3 i o t) - q (ix3 i o t)) = err i t) (j : S_.Idx) :
    lossT l z q j = l j + (∑ i, ∑ t, err i t) * ((1 / 1048576 : ℝ) : EReal) := by
  rw [lossT_at, Spec.means_eq]
  refine congrArg (fun s => l j + s * _) (Finset.sum_congr rfl fun i _ => ?_)
  rw [Finset.sum_comm]
  exact Finset.sum_congr rfl fun t _ => h i t

end Cert.RefTrip
end
-- ==== Proof.RefValue.lean ====
/- What the reference's program ends with: the induction over the layers. -/
module

public import proofs.«01_k».proof.Proof.RefStep

@[expose] public section

set_option maxRecDepth 16384

noncomputable section

namespace Cert.RefTrip

open Cert.ReferenceIdeal Cert.ReferenceIdeal.Gen Cert.RefTensor Cert.RefRun
open Idealize.ShloMosaic Idealize.ShloMosaic.TcCoe Idealize.ShloMosaic.Tactic
open Idealize.ShloMosaic.StableHlo

/-! ## One trip, of a valuation -/

section Step
variable (V : Valuation τ sig (Elt Ideal)) (k : Fin 8)

/-- Layer `k` over the stacks that `V` carries. -/
abbrev lays : ℕ → Spec.Lay :=
  Spec.layOf (mat (rd V main_v2_0)) (vec (rd V main_v2_1)) (vec (rd V main_v2_2)) (mat (rd V main_v2_3)) (vec (rd V main_v2_4))
    (vec (rd V main_v2_5)) (mat (rd V main_v2_6))

variable (hc : rd V main_v2_7 = ctr k) (i : Fin 16) (t : Fin 1024)
include hc

theorem zV_at (o : Fin 64) : zV V (ix3 i o t) = Spec.ze (lays V k.val) (col (rd V main_v2_8) i t) o := by
  unfold zV
  rw [hc]
  exact z_at k (rd V main_v2_0) (rd V main_v2_1) (rd V main_v2_2) (rd V main_v2_3) (rd V main_v2_4) (rd V main_v2_5) (rd V main_v2_6)
    (rd V main_v2_8) i t o

theorem cV_at : cV V (ix2 i t) = BitVec.ofNat 32 (Spec.idx (lays V k.val) (col (rd V main_v2_8) i t)).val := by
  unfold cV
  rw [hc]
  exact code_at k (rd V main_v2_0) (rd V main_v2_1) (rd V main_v2_2) (rd V main_v2_3) (rd V main_v2_4) (rd V main_v2_5) (rd V main_v2_6)
    i t (zV V) (col (rd V main_v2_8) i t) fun o => zV_at V k hc i t o

theorem qV_at (o : Fin 64) : qV V (ix3 i o t) = Spec.zq (lays V k.val) (col (rd V main_v2_8) i t) o := by
  unfold qV
  rw [hc]
  exact q_at k (rd V main_v2_0) (rd V main_v2_1) (rd V main_v2_2) (rd V main_v2_3) (rd V main_v2_4) (rd V main_v2_5) (rd V main_v2_6)
    i t (cV V) (col (rd V main_v2_8) i t) (cV_at V k hc i t) o

theorem oV_at (hL : (lays V k.val).Fine) (hx : ∀ c, Spec.IsR (col (rd V main_v2_8) i t c)) (d : Fin 1024) :
    oV V (ix3 i d t) = Spec.out (lays V k.val) (col (rd V main_v2_8) i t) d := by
  unfold oV
  rw [hc]
  exact o_at k (rd V main_v2_0) (rd V main_v2_1) (rd V main_v2_2) (rd V main_v2_3) (rd V main_v2_4) (rd V main_v2_5) (rd V main_v2_6)
    i t (zV V) (qV V) (col (rd V main_v2_8) i t) (fun o => zV_at V k hc i t o) (fun o => qV_at V k hc i t o) hL hx d

end Step

/-! ## The trips -/

variable (m : (ℓ : Loc nD τ sig) → Buf (Elt Ideal) ℓ) (c : Dev nD)

/-- An argument. -/
abbrev arg (r : Ref sig .tc) := m ((c.tc : Thread nD τ).loc r)

/-- The layers over the arguments. -/
def lay₀ : ℕ → Spec.Lay :=
  Spec.layOf (mat (arg m c main_arg1)) (vec (arg m c main_arg2)) (vec (arg m c main_arg3)) (mat (arg m c main_arg4)) (vec (arg m c main_arg5))
    (vec (arg m c main_arg6)) (mat (arg m c main_arg7))

/-- What is left of a column before layer `k`. -/
def left (k : ℕ) (i : Fin 16) (t : Fin 1024) : Fin 1024 → EReal := Spec.res (lay₀ m c) (col (arg m c main_arg0) i t) k

theorem atK_stacks (k : ℕ) : rd (atK m k c) main_v2_0 = arg m c main_arg1 ∧ rd (atK m k c) main_v2_1 = arg m c main_arg2
    ∧ rd (atK m k c) main_v2_2 = arg m c main_arg3 ∧ rd (atK m k c) main_v2_3 = arg m c main_arg4 ∧ rd (atK m k c) main_v2_4 = arg m c main_arg5
    ∧ rd (atK m k c) main_v2_5 = arg m c main_arg6 ∧ rd (atK m k c) main_v2_6 = arg m c main_arg7 := by
  induction k with
  | zero =>
    rw [show atK m 0 c = entryContents preI m c from rfl]
    unfold rd arg
    simp only [entryContents, afterL_cons, afterL_nil]
    refine ⟨?_, ?_, ?_, ?_, ?_, ?_, ?_⟩ <;> after_reads_simp <;> rfl
  | succ k ih =>
    obtain ⟨h0, h1, h2, h3, h4, h5, h6⟩ := ih
    rw [show atK m (k + 1) c = afterL bodyI (after condOps (atK m k c)) from rfl]
    exact ⟨(trip_keep _ _ (by simp only [true_or, or_true])).trans h0, (trip_keep _ _ (by simp only [true_or, or_true])).trans h1,
      (trip_keep _ _ (by simp only [true_or, or_true])).trans h2, (trip_keep _ _ (by simp only [true_or, or_true])).trans h3,
      (trip_keep _ _ (by simp only [true_or, or_true])).trans h4, (trip_keep _ _ (by simp only [true_or, or_true])).trans h5,
      (trip_keep _ _ (by simp only [true_or, or_true])).trans h6⟩

theorem atK_lay (k : ℕ) : lays (atK m k c) = lay₀ m c := by
  obtain ⟨h0, h1, h2, h3, h4, h5, h6⟩ := atK_stacks m c k
  unfold lays lay₀
  rw [h0, h1, h2, h3, h4, h5, h6]

theorem iv_eq (k : ℕ) : Scf.iv 0#32 1#32 k = BitVec.ofNat 32 k := by
  induction k with
  | zero => rw [Scf.iv_zero]
  | succ k ih => rw [Scf.iv_succ, ih, BitVec.ofNat_add]

theorem atK_count (k : Fin 8) : rd (atK m k.val c) main_v2_7 = ctr k := by
  unfold rd ctr
  rw [atK_ctr, iv_eq]
  rfl

theorem entry_reads : rd (atK m 0 c) main_v2_8 = arg m c main_arg0
    ∧ rd (atK m 0 c) main_v2_9 = broadcastInDim S16x1024x1024 ![] bcast_S_S16x1024x1024 (constant S_ .f32 0x00000000#32 : FVec Ideal S_ .f32)
    ∧ rd (atK m 0 c) main_v2_10 = (constant S_ .f32 0x00000000#32 : FVec Ideal S_ .f32)
    ∧ rd (atK m 0 c) main_v2_11 = (constant S_ .f32 0x00000000#32 : FVec Ideal S_ .f32) := by
  rw [show atK m 0 c = entryContents preI m c from rfl]
  unfold rd arg
  simp only [entryContents, afterL_cons, afterL_nil]
  refine ⟨?_, ?_, ?_, ?_⟩ <;> after_reads_simp <;> rfl

variable (hL : ∀ n, (lay₀ m c n).Fine) (hx : ∀ j, Spec.IsR ((arg m c main_arg0 : FVec Ideal S16x1024x1024 .f32) j))

include hL hx

theorem left_real (k : ℕ) (i : Fin 16) (t d : Fin 1024) : Spec.IsR (left m c k i t d) :=
  Spec.res_real hL (fun _ => hx _) k d

theorem atK_res (k : ℕ) (hk : k ≤ 8) (i : Fin 16) (t : Fin 1024) : col (rd (atK m k c) main_v2_8) i t = left m c k i t := by
  induction k generalizing i t with
  | zero => rw [(entry_reads m c).1]; rfl
  | succ k ih =>
    have ih := ih (by omega)
    have hc : rd (atK m k c) main_v2_7 = ctr ⟨k, hk⟩ := atK_count m c ⟨k, hk⟩
    have ho := fun d => oV_at (atK m k c) ⟨k, hk⟩ hc i t (by rw [atK_lay]; exact hL _)
      (by rw [ih]; exact left_real m c hL hx k i t) d
    rw [show atK m (k + 1) c = afterL bodyI (after condOps (atK m k c)) from rfl, trip_res]
    funext d
    show HSub.hSub (α := EReal) (β := EReal) (col (rd (atK m k c) main_v2_8) i t d) (oV (atK m k c) (ix3 i d t)) = _
    rw [ho, atK_lay, ih]
    rfl

theorem atK_out (k : Fin 8) (i : Fin 16) (t d : Fin 1024) :
    oV (atK m k.val c) (ix3 i d t) = Spec.out (lay₀ m c k.val) (left m c k.val i t) d := by
  rw [oV_at (atK m k.val c) k (atK_count m c k) i t (by rw [atK_lay]; exact hL _)
    (by rw [atK_res m c hL hx k.val k.isLt.le]; exact left_real m c hL hx k.val i t) d, atK_lay, atK_res m c hL hx k.val k.isLt.le]

theorem atK_lat (k : ℕ) (hk : k ≤ 8) (i : Fin 16) (t d : Fin 1024) : (rd (atK m k c) main_v2_9 : FVec Ideal S16x1024x1024 .f32) (ix3 i d t)
    = HSub.hSub (α := EReal) (β := EReal) ((arg m c main_arg0 : FVec Ideal S16x1024x1024 .f32) (ix3 i d t)) (left m c k i t d) := by
  induction k with
  | zero =>
    rw [(entry_reads m c).2.1]
    obtain ⟨r, hr⟩ := hx (ix3 i d t)
    have e0 : (broadcastInDim S16x1024x1024 ![] bcast_S_S16x1024x1024 (constant S_ .f32 0x00000000#32 : FVec Ideal S_ .f32)) (ix3 i d t) = (0 : EReal) := by
      pointwise
    refine e0.trans ?_
    show (0 : EReal) = HSub.hSub (α := EReal) (β := EReal) ((arg m c main_arg0 : FVec Ideal S16x1024x1024 .f32) (ix3 i d t)) ((arg m c main_arg0 : FVec Ideal S16x1024x1024 .f32) (ix3 i d t))
    rw [hr, ← EReal.coe_sub, sub_self, EReal.coe_zero]
  | succ k ih =>
    rw [show atK m (k + 1) c = afterL bodyI (after condOps (atK m k c)) from rfl, trip_lat, latT_at, ih (by omega),
      atK_out m c hL hx ⟨k, hk⟩, Spec.one_eq, mul_one]
    exact (hx _).sub_add (left_real m c hL hx k i t d) ((hL k).out _ d)

/-- The squared error of layer `k` over everything. -/
def errs (k : ℕ) : EReal := ∑ i, ∑ t, Spec.err (lay₀ m c k) (left m c k i t)

theorem atK_commit (k : ℕ) (hk : k ≤ 8) (j : S_.Idx) : (rd (atK m k c) main_v2_10 : FVec Ideal S_ .f32) j
    = ∑ n ∈ Finset.range k, errs m c n * ((1 / 1048576 : ℝ) : EReal) := by
  induction k with
  | zero =>
    rw [(entry_reads m c).2.2.1, Finset.sum_range_zero]
    exact Ideal.ofBits_zero_f32
  | succ k ih =>
    rw [show atK m (k + 1) c = afterL bodyI (after condOps (atK m k c)) from rfl, trip_commit,
      lossT_real _ _ _ (fun i t => Spec.err (lay₀ m c k) (left m c k i t)), ih (by omega), Finset.sum_range_succ]
    · rfl
    · intro i t
      have hr := atK_res m c hL hx k (by omega)
      simp only [zV_at (atK m k c) ⟨k, hk⟩ (atK_count m c ⟨k, hk⟩), qV_at (atK m k c) ⟨k, hk⟩ (atK_count m c ⟨k, hk⟩), hr]
      rw [atK_lay]
      rfl

theorem atK_book (k : ℕ) (hk : k ≤ 8) (j : S_.Idx) : (rd (atK m k c) main_v2_11 : FVec Ideal S_ .f32) j
    = ∑ n ∈ Finset.range k, errs m c n * ((1 / 1048576 : ℝ) : EReal) := by
  induction k with
  | zero =>
    rw [(entry_reads m c).2.2.2, Finset.sum_range_zero]
    exact Ideal.ofBits_zero_f32
  | succ k ih =>
    rw [show atK m (k + 1) c = afterL bodyI (after condOps (atK m k c)) from rfl, trip_book,
      lossT_real _ _ _ (fun i t => Spec.err (lay₀ m c k) (left m c k i t)), ih (by omega), Finset.sum_range_succ]
    · rfl
    · intro i t
      have hr := atK_res m c hL hx k (by omega)
      simp only [zV_at (atK m k c) ⟨k, hk⟩ (atK_count m c ⟨k, hk⟩), qV_at (atK m k c) ⟨k, hk⟩ (atK_count m c ⟨k, hk⟩), hr]
      rw [atK_lay]
      exact Finset.sum_congr rfl fun o _ => Spec.IsR.sq_comm ((hL k).ze (left_real m c hL hx k i t) o) ((hL k).zq (left m c k i t) o)

theorem atK_code (k : ℕ) (hk : k ≤ 8) (l : Fin 8) (hl : l.val < k) (i : Fin 16) (t : Fin 1024) :
    (rd (atK m k c) main_v2_12 : IVec S8x16x1024 32) (ix3 l i t)
      = BitVec.ofNat 32 (Spec.idx (lay₀ m c l.val) (left m c l.val i t)).val := by
  induction k with
  | zero => exact absurd hl (Nat.not_lt_zero _)
  | succ k ih =>
    have hc : rd (atK m k c) main_v2_7 = ctr ⟨k, hk⟩ := atK_count m c ⟨k, hk⟩
    rw [show atK m (k + 1) c = afterL bodyI (after condOps (atK m k c)) from rfl, trip_code, hc, storeT_at]
    by_cases h : l = ⟨k, hk⟩
    · subst h
      rw [if_pos rfl, cV_at (atK m k c) ⟨k, hk⟩ hc, atK_lay, atK_res m c hL hx k (by omega)]
    · rw [if_neg h]
      exact ih (by omega) (by
        have : l.val ≠ k := fun e => h (Fin.ext e)
        omega)

/-! ## The results -/

omit hL hx in
theorem exit_keep (V : Valuation τ sig (Elt Ideal)) : rd (afterL postI (after condOps V)) main_v2_9 = rd V main_v2_9
    ∧ rd (afterL postI (after condOps V)) main_v2_10 = rd V main_v2_10 ∧ rd (afterL postI (after condOps V)) main_v2_11 = rd V main_v2_11 := by
  unfold rd
  simp only [afterL_cons, afterL_nil]
  refine ⟨?_, ?_, ?_⟩ <;> after_reads_simp

omit hL hx in
theorem exit_code (V : Valuation τ sig (Elt Ideal)) : rd (afterL postI (after condOps V)) main_v3
    = transpose S16x8x1024 [1, 0, 2] (rd V main_v2_12 : IVec S8x16x1024 32) transposes_S8x16x1024_S16x8x1024_1_0_2 := by
  unfold rd
  simp only [afterL_cons, afterL_nil]
  after_reads_simp

omit hL hx in
theorem final_eq (r : Ref sig .tc) : finalContents condOps preI bodyI postI 8 m c (Proc.devRef .tc r)
    = rd (afterL postI (after condOps (atK m 8 c))) r := rfl

theorem final_code (i : Fin 16) (l : Fin 8) (t : Fin 1024) :
    (finalContents condOps preI bodyI postI 8 m c (Proc.devRef .tc main_v3) : IVec S16x8x1024 32) (ix3 i l t)
      = BitVec.ofNat 32 (Spec.idx (lay₀ m c l.val) (left m c l.val i t)).val := by
  rw [final_eq, exit_code, ← atK_code m c hL hx 8 le_rfl l l.isLt i t]
  pointwise

theorem final_lat (i : Fin 16) (d t : Fin 1024) :
    (finalContents condOps preI bodyI postI 8 m c (Proc.devRef .tc main_v2_9) : FVec Ideal S16x1024x1024 .f32) (ix3 i d t)
      = HSub.hSub (α := EReal) (β := EReal) ((arg m c main_arg0 : FVec Ideal S16x1024x1024 .f32) (ix3 i d t)) (left m c 8 i t d) := by
  rw [final_eq, (exit_keep _).1, atK_lat m c hL hx 8 le_rfl]

theorem total (f : ℕ → EReal) : ∑ n ∈ Finset.range 8, f n * ((1 / 1048576 : ℝ) : EReal)
    = Ideal.div (∑ n : Fin 8, f n.val) (Ideal.ofBits .f32 0x49800000#32) := by
  rw [Finset.sum_range, Spec.total_eq, Ideal.div_coe (by norm_num), Spec.sum_mul _ (by norm_num)]

theorem final_commit (j : S_.Idx) : (finalContents condOps preI bodyI postI 8 m c (Proc.devRef .tc main_v2_10) : FVec Ideal S_ .f32) j
    = Ideal.div (∑ n : Fin 8, errs m c n.val) (Ideal.ofBits .f32 0x49800000#32) := by
  rw [final_eq, (exit_keep _).2.1, atK_commit m c hL hx 8 le_rfl, total m c hL hx]

theorem final_book (j : S_.Idx) : (finalContents condOps preI bodyI postI 8 m c (Proc.devRef .tc main_v2_11) : FVec Ideal S_ .f32) j
    = Ideal.div (∑ n : Fin 8, errs m c n.val) (Ideal.ofBits .f32 0x49800000#32) := by
  rw [final_eq, (exit_keep _).2.2, atK_book m c hL hx 8 le_rfl, total m c hL hx]

end Cert.RefTrip
end
-- ==== Proof.Agree.lean ====
/- The two programs' values, element by element. -/
module

public import proofs.«01_k».proof.Proof.KerHost
public import proofs.«01_k».proof.Proof.KerRun
public import proofs.«01_k».proof.Proof.RefValue

@[expose] public section

set_option maxRecDepth 16384

noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two memories hold the same arguments on device `c`. -/
def Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)

variable (h : Same m m' c)
include h

theorem lay_same : KerValue.lay m c = RefTrip.lay₀ m' c := by
  obtain ⟨_, h1, h2, h3, h4, h5, h6, h7⟩ := h
  rw [KerHost.lay_eq]
  unfold RefTrip.lay₀ RefTrip.arg
  rw [h1, h2, h3, h4, h5, h6, h7]
  rfl

theorem left_same (k : ℕ) (i : Fin 16) (t : Fin 1024) : Spec.res (KerValue.lay m c)
    (KerValue.zcol (m ((c.tc : Thread KernelIdeal.nD KernelIdeal.τ).loc KernelIdeal.main_arg0)) i t) k = RefTrip.left m' c k i t := by
  rw [lay_same m m' c h]
  unfold RefTrip.left RefTrip.arg
  rw [h.1]
  rfl

theorem codes_at (i : Fin 16) (l : Fin 8) (t : Fin 1024) : KerValue.codes m c (ix3 i l t)
    = BitVec.ofNat 32 (Spec.idx (RefTrip.lay₀ m' c l.val) (RefTrip.left m' c l.val i t)).val := by
  show BitVec.ofNat 32 (Spec.idx (KerValue.lay m c l.val) (Spec.res (KerValue.lay m c)
    (KerValue.zcol (m ((c.tc : Thread KernelIdeal.nD KernelIdeal.τ).loc KernelIdeal.main_arg0)) i t) l.val)).val = _
  rw [left_same m m' c h, lay_same m m' c h]

theorem parts_at (i : Fin 16) (l : Fin 8) (t : Fin 1024) : KerValue.parts m c (ix3 i l t)
    = Spec.err (RefTrip.lay₀ m' c l.val) (RefTrip.left m' c l.val i t) := by
  show Spec.err (KerValue.lay m c l.val) (Spec.res (KerValue.lay m c)
    (KerValue.zcol (m ((c.tc : Thread KernelIdeal.nD KernelIdeal.τ).loc KernelIdeal.main_arg0)) i t) l.val) = _
  rw [left_same m m' c h, lay_same m m' c h]

theorem latent_at (i : Fin 16) (d t : Fin 1024) : KerValue.latent m c (ix3 i d t)
    = HSub.hSub (α := EReal) (β := EReal) ((RefTrip.arg m' c ReferenceIdeal.main_arg0 : FVec Ideal ReferenceIdeal.S16x1024x1024 .f32) (ix3 i d t))
      (RefTrip.left m' c 8 i t d) := by
  rw [← left_same m m' c h]
  unfold RefTrip.arg
  rw [h.1]
  rfl

theorem loss_eq (j : KernelIdeal.S_.Idx) : KerRun.loss m c j
    = Ideal.div (∑ n : Fin 8, RefTrip.errs m' c n.val) (Ideal.ofBits .f32 0x49800000#32) := by
  unfold KerRun.loss RefTrip.errs
  simp only [parts_at m m' c h]
  rw [Finset.sum_comm]

variable (hL : ∀ n, (RefTrip.lay₀ m' c n).Fine)
  (hx : ∀ j, Spec.IsR ((RefTrip.arg m' c ReferenceIdeal.main_arg0 : FVec Ideal ReferenceIdeal.S16x1024x1024 .f32) j))
include hL hx

open RefRun StableHlo ReferenceIdeal.Gen

theorem code_eq : finalContents condOps preI bodyI postI 8 m' c (Proc.devRef .tc ReferenceIdeal.main_v3) = KerValue.codes m c := by
  funext i
  obtain ⟨a, b, d, rfl⟩ : ∃ (a : Fin 16) (b : Fin 8) (d : Fin 1024), i = ix3 a b d := ⟨i 0, i 1, i 2, eq_ix3 i⟩
  exact (RefTrip.final_code m' c hL hx a b d).trans (codes_at m m' c h a b d).symm

theorem latent_eq : finalContents condOps preI bodyI postI 8 m' c (Proc.devRef .tc ReferenceIdeal.main_v2_9) = KerValue.latent m c := by
  funext i
  obtain ⟨a, b, d, rfl⟩ : ∃ (a : Fin 16) (b d : Fin 1024), i = ix3 a b d := ⟨i 0, i 1, i 2, eq_ix3 i⟩
  exact (RefTrip.final_lat m' c hL hx a b d).trans (latent_at m m' c h a b d).symm

theorem commit_eq : finalContents condOps preI bodyI postI 8 m' c (Proc.devRef .tc ReferenceIdeal.main_v2_10) = KerRun.loss m c :=
  funext fun j => (RefTrip.final_commit m' c hL hx j).trans (loss_eq m m' c h j).symm

theorem book_eq : finalContents condOps preI bodyI postI 8 m' c (Proc.devRef .tc ReferenceIdeal.main_v2_11) = KerRun.loss m c :=
  funext fun j => (RefTrip.final_book m' c hL hx j).trans (loss_eq m m' c h j).symm

end Cert.Agree
end
-- ==== Proof.lean ====
/- The certificate: the claims about the kernel and the reference, assembled from the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_real_data
public import proofs.«01_k».proof.Proof.PreData
public import proofs.«01_k».proof.Proof.Agree
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal (hReferenceIdeal := Cert.ReferenceIdeal.Gen.facts) := fun m g _ =>
  θ_run_mono (Cert.RefRun.frame m g) fun r h => ⟨fun c => by
    refine ⟨?_, ?_, ?_, ?_, ?_, ?_, ?_, ?_⟩ <;> exact h.2 c _ (by simp only [true_or, or_true]), h.1⟩

/-- On the arguments that the precondition admits, the kernel and the reference end with equal results. -/
theorem equal_results : Cert.algebraic_KernelIdeal_ReferenceIdeal_pre_real_data (hKernelIdeal := Cert.KernelIdeal.Gen.facts)
    (hReferenceIdeal := Cert.ReferenceIdeal.Gen.facts) (hPre_real_data := Cert.Pre_real_data.Gen.facts) := by
  intro m g m' g' hp hs
  refine ⟨KerValue.codes m, KerValue.latent m, KerRun.loss m, KerRun.loss m, θ_run_mono (KerRun.run m g) fun r h c => ?_,
    θ_run_mono (θ_run_and (RefRun.run_fold m' g') (RefRun.frame m' g')) fun r h c => ?_⟩
  · obtain ⟨h0, h1, h2, hr⟩ := h c
    exact ⟨h0, h1, h2, h2, hr⟩
  · have hd := PreData.decode _ _ _ _ _ _ _ _ (hp c)
    have hl : ∀ n, (RefTrip.lay₀ m' c n).Fine := fun n => by
      rw [← Agree.lay_same m m' c (hs c), KerHost.lay_eq]
      exact hd.2 n
    have hx : ∀ j, Spec.IsR ((RefTrip.arg m' c Cert.ReferenceIdeal.main_arg0 : FVec Ideal Cert.ReferenceIdeal.S16x1024x1024 .f32) j) := fun j => by
      unfold RefTrip.arg
      rw [(hs c).1]
      exact hd.1 j
    refine ⟨(h.1 c _ rfl).trans (Agree.code_eq m m' c (hs c) hl hx), (h.1 c _ rfl).trans (Agree.latent_eq m m' c (hs c) hl hx),
      (h.1 c _ rfl).trans (Agree.commit_eq m m' c (hs c) hl hx), (h.1 c _ rfl).trans (Agree.book_eq m m' c (hs c) hl hx),
      ?_, ?_, ?_, ?_, ?_, ?_, ?_, ?_⟩ <;> exact h.2.2 c _ (by simp only [true_or, or_true])

theorem claim : Cert.Claim := ⟨Cert.Kernel.Gen.facts, Cert.KernelIdeal.Gen.facts, Cert.ReferenceIdeal.Gen.facts,
  Cert.Pre_real_data.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, equal_results⟩

end Cert.Proof

end
